-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v161) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32768x512 : Shape := ⟨2, ![32768, 512]⟩
abbrev S4096x512 : Shape := ⟨2, ![4096, 512]⟩
abbrev S2048x128 : Shape := ⟨2, ![2048, 128]⟩
abbrev S_ : Shape := ⟨0, ![]⟩
abbrev S2048x512 : Shape := ⟨2, ![2048, 512]⟩
abbrev S256x512 : Shape := ⟨2, ![256, 512]⟩
abbrev S4x2x128x128 : Shape := ⟨4, ![4, 2, 128, 128]⟩
abbrev S2x4x128x2048 : Shape := ⟨4, ![2, 4, 128, 2048]⟩
abbrev S2x4x2x64x512 : Shape := ⟨5, ![2, 4, 2, 64, 512]⟩
abbrev S2x4x2x512x128 : Shape := ⟨5, ![2, 4, 2, 512, 128]⟩
abbrev S2x4x2x64x128 : Shape := ⟨5, ![2, 4, 2, 64, 128]⟩
abbrev S64x64 : Shape := ⟨2, ![64, 64]⟩
abbrev S64x192 : Shape := ⟨2, ![64, 192]⟩
abbrev S128x192 : Shape := ⟨2, ![128, 192]⟩
abbrev S64x128 : Shape := ⟨2, ![64, 128]⟩
abbrev S128x128 : Shape := ⟨2, ![128, 128]⟩
abbrev S64x256 : Shape := ⟨2, ![64, 256]⟩
abbrev S192x256 : Shape := ⟨2, ![192, 256]⟩
abbrev S128x256 : Shape := ⟨2, ![128, 256]⟩
abbrev S1x128 : Shape := ⟨2, ![1, 128]⟩
abbrev S1x1x128x128 : Shape := ⟨4, ![1, 1, 128, 128]⟩
abbrev S1x2048x512 : Shape := ⟨3, ![1, 2048, 512]⟩
abbrev S1 : Shape := ⟨1, ![1]⟩
abbrev S1x1x1 : Shape := ⟨3, ![1, 1, 1]⟩
abbrev S4x16x128 : Shape := ⟨3, ![4, 16, 128]⟩
abbrev S16x128 : Shape := ⟨2, ![16, 128]⟩
abbrev S1x16x128 : Shape := ⟨3, ![1, 16, 128]⟩
abbrev S1x1x128 : Shape := ⟨3, ![1, 1, 128]⟩
abbrev S64x512 : Shape := ⟨2, ![64, 512]⟩
abbrev S128x512 : Shape := ⟨2, ![128, 512]⟩
abbrev S512x128 : Shape := ⟨2, ![512, 128]⟩
abbrev S1x1x1x64x512 : Shape := ⟨5, ![1, 1, 1, 64, 512]⟩
abbrev S1x1x1x512x128 : Shape := ⟨5, ![1, 1, 1, 512, 128]⟩
abbrev S1x1x1x64x128 : Shape := ⟨5, ![1, 1, 1, 64, 128]⟩
abbrev S1x1x1x64x384 : Shape := ⟨5, ![1, 1, 1, 64, 384]⟩
abbrev S64x384 : Shape := ⟨2, ![64, 384]⟩
abbrev S1x1x1x384x128 : Shape := ⟨5, ![1, 1, 1, 384, 128]⟩
abbrev S384x128 : Shape := ⟨2, ![384, 128]⟩
abbrev S1x1x1x128x128 : Shape := ⟨5, ![1, 1, 1, 128, 128]⟩
abbrev S256x128 : Shape := ⟨2, ![256, 128]⟩
abbrev S128x384 : Shape := ⟨2, ![128, 384]⟩
abbrev S4x1x128 : Shape := ⟨3, ![4, 1, 128]⟩
abbrev S4x8x128 : Shape := ⟨3, ![4, 8, 128]⟩
abbrev S64x2048 : Shape := ⟨2, ![64, 2048]⟩
abbrev S1x1x64x2048 : Shape := ⟨4, ![1, 1, 64, 2048]⟩
abbrev S1x1x128x2048 : Shape := ⟨4, ![1, 1, 128, 2048]⟩
abbrev S128x2048 : Shape := ⟨2, ![128, 2048]⟩

abbrev nBuf : Space → Nat
  | .hbm => 27
  | .vmem => 30
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .f32⟩
  | .hbm, ⟨3, _⟩ => ⟨S32768x512, .bf16⟩
  | .hbm, ⟨4, _⟩ => ⟨S32768x512, .f32⟩
  | .hbm, ⟨5, _⟩ => ⟨S32768x512, .bf16⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S2048x128, .i32⟩
  | .hbm, ⟨12, _⟩ => ⟨S_, .i32⟩
  | .hbm, ⟨13, _⟩ => ⟨S2048x128, .i32⟩
  | .hbm, ⟨14, _⟩ => ⟨S2048x128, .i32⟩
  | .hbm, ⟨15, _⟩ => ⟨S2048x128, .i32⟩
  | .hbm, ⟨16, _⟩ => ⟨S_, .i32⟩
  | .hbm, ⟨17, _⟩ => ⟨S2048x128, .i32⟩
  | .hbm, ⟨18, _⟩ => ⟨S2048x128, .i32⟩
  | .hbm, ⟨19, _⟩ => ⟨S2048x128, .i1⟩
  | .hbm, ⟨20, _⟩ => ⟨S_, .f32⟩
  | .hbm, ⟨21, _⟩ => ⟨S_, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .bf16⟩
  | .hbm, ⟨26, _⟩ => ⟨S32768x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | .local _ .vmem, ⟨12, _⟩ => ⟨S256x512, .bf16⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x512, .bf16⟩
  | .local _ .vmem, ⟨21, _⟩ => ⟨S256x512, .bf16⟩
  | .local _ .vmem, ⟨22, _⟩ => ⟨S2048x128, .bf16⟩
  | .local _ .vmem, ⟨23, _⟩ => ⟨S2048x512, .f32⟩
  | .local _ .vmem, ⟨24, _⟩ => ⟨S2048x512, .f32⟩
  | .local _ .vmem, ⟨25, _⟩ => ⟨S4x2x128x128, .f32⟩
  | .local _ .vmem, ⟨26, _⟩ => ⟨S2x4x128x2048, .bf16⟩
  | .local _ .vmem, ⟨27, _⟩ => ⟨S2x4x2x64x512, .bf16⟩
  | .local _ .vmem, ⟨28, _⟩ => ⟨S2x4x2x512x128, .bf16⟩
  | .local _ .vmem, ⟨29, _⟩ => ⟨S2x4x2x64x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 1], ![false, false]⟩

def k0_mult1 : BitVec 32 :=
  let c0_i32_315 : BitVec 32 := 0#32
  c0_i32_315
def k0_mult2 : BitVec 32 :=
  let c1984_i32 : BitVec 32 := 1984#32
  c1984_i32
def k0_mult3 : BitVec 32 :=
  let c0_i32_319 : BitVec 32 := 0#32
  c0_i32_319
def k0_mult4 : BitVec 32 :=
  let c1984_i32_321 : BitVec 32 := 1984#32
  c1984_i32_321
def k0_mult5 : BitVec 32 :=
  let c0_i32_324 : BitVec 32 := 0#32
  c0_i32_324
def k0_mult6 : BitVec 32 :=
  let c1984_i32_326 : BitVec 32 := 1984#32
  c1984_i32_326
def k0_mult7 : BitVec 32 :=
  let c0_i32_329 : BitVec 32 := 0#32
  c0_i32_329
def k0_mult8 : BitVec 32 :=
  let c1984_i32_331 : BitVec 32 := 1984#32
  c1984_i32_331
def k0_mult9 : BitVec 32 :=
  let c0_i32_334 : BitVec 32 := 0#32
  c0_i32_334
def k0_mult10 : BitVec 32 :=
  let c1984_i32_354 : BitVec 32 := 1984#32
  c1984_i32_354
def k0_mult11 : BitVec 32 :=
  let c0_i32_374 : BitVec 32 := 0#32
  c0_i32_374
def k0_mult12 : BitVec 32 :=
  let c1984_i32_394 : BitVec 32 := 1984#32
  c1984_i32_394
def k0_mult13 : BitVec 32 :=
  let c0_i32_414 : BitVec 32 := 0#32
  c0_i32_414
def k0_mult14 : BitVec 32 :=
  let c1984_i32_434 : BitVec 32 := 1984#32
  c1984_i32_434
def k0_mult15 : BitVec 32 :=
  let c0_i32_454 : BitVec 32 := 0#32
  c0_i32_454
def k0_mult16 : BitVec 32 :=
  let c1984_i32_474 : BitVec 32 := 1984#32
  c1984_i32_474
@[reducible] def k0_t1_loop : Scf.Loop 32 :=
  let c0_i32_494 : BitVec 32 := 0#32
  let c4_i32 : BitVec 32 := 4#32
  let v2316 : BitVec 32 := Scalar.addi c0_i32_494 c4_i32
  let c1_i32_495 : BitVec 32 := 1#32
  ⟨c0_i32_494, v2316, c1_i32_495⟩
def k0_mult17 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32 : BitVec 32 := 64#32
  let v2322 : BitVec 32 := Scalar.muli v2321 c64_i32
  v2322
def k0_off1 (k0_t1 : Fin k0_t1_loop.trips) (c0_i32_502 : BitVec 32) : Fin 2 → Nat :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32 : BitVec 32 := 64#32
  let v2322 : BitVec 32 := Scalar.muli v2321 c64_i32
  let v2323 : BitVec 32 := v2322
  let v2324 : Index := Scalar.indexCast v2323
  let c0_504 : Index := 0#32
  ![v2324.toNat, 0]
def k0_mult18 (k0_t1 : Fin k0_t1_loop.trips) : BitVec 32 :=
  let c31_i32_505 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2326 : BitVec 32 := Scalar.subi c31_i32_505 v2321
  let c64_i32_506 : BitVec 32 := 64#32
  let v2327 : BitVec 32 := Scalar.muli v2326 c64_i32_506
  v2327
def k0_off2 (k0_t1 : Fin k0_t1_loop.trips) (c0_i32_502 : BitVec 32) : Fin 2 → Nat :=
  let c31_i32_505 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2326 : BitVec 32 := Scalar.subi c31_i32_505 v2321
  let c64_i32_506 : BitVec 32 := 64#32
  let v2327 : BitVec 32 := Scalar.muli v2326 c64_i32_506
  let v2328 : BitVec 32 := v2327
  let v2329 : Index := Scalar.indexCast v2328
  let c0_507 : Index := 0#32
  ![v2329.toNat, 0]
def k0_mult19 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_509 : BitVec 32 := 64#32
  let v2343 : BitVec 32 := Scalar.muli v2321 c64_i32_509
  v2343
def k0_off3 (k0_t1 : Fin k0_t1_loop.trips) (c0_i32_502 : BitVec 32) : Fin 2 → Nat :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_509 : BitVec 32 := 64#32
  let v2343 : BitVec 32 := Scalar.muli v2321 c64_i32_509
  let v2344 : BitVec 32 := v2343
  let v2345 : Index := Scalar.indexCast v2344
  let c128_510 : Index := 128#32
  ![v2345.toNat, 128]
def k0_mult20 (k0_t1 : Fin k0_t1_loop.trips) : BitVec 32 :=
  let c31_i32_511 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2347 : BitVec 32 := Scalar.subi c31_i32_511 v2321
  let c64_i32_512 : BitVec 32 := 64#32
  let v2348 : BitVec 32 := Scalar.muli v2347 c64_i32_512
  v2348
def k0_off4 (k0_t1 : Fin k0_t1_loop.trips) (c0_i32_502 : BitVec 32) : Fin 2 → Nat :=
  let c31_i32_511 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2347 : BitVec 32 := Scalar.subi c31_i32_511 v2321
  let c64_i32_512 : BitVec 32 := 64#32
  let v2348 : BitVec 32 := Scalar.muli v2347 c64_i32_512
  let v2349 : BitVec 32 := v2348
  let v2350 : Index := Scalar.indexCast v2349
  let c128_513 : Index := 128#32
  ![v2350.toNat, 128]
def k0_mult21 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_515 : BitVec 32 := 64#32
  let v2364 : BitVec 32 := Scalar.muli v2321 c64_i32_515
  v2364
def k0_off5 (k0_t1 : Fin k0_t1_loop.trips) (c0_i32_502 : BitVec 32) : Fin 2 → Nat :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_515 : BitVec 32 := 64#32
  let v2364 : BitVec 32 := Scalar.muli v2321 c64_i32_515
  let v2365 : BitVec 32 := v2364
  let v2366 : Index := Scalar.indexCast v2365
  let c256_516 : Index := 256#32
  ![v2366.toNat, 256]
def k0_mult22 (k0_t1 : Fin k0_t1_loop.trips) : BitVec 32 :=
  let c31_i32_517 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2368 : BitVec 32 := Scalar.subi c31_i32_517 v2321
  let c64_i32_518 : BitVec 32 := 64#32
  let v2369 : BitVec 32 := Scalar.muli v2368 c64_i32_518
  v2369
def k0_off6 (k0_t1 : Fin k0_t1_loop.trips) (c0_i32_502 : BitVec 32) : Fin 2 → Nat :=
  let c31_i32_517 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2368 : BitVec 32 := Scalar.subi c31_i32_517 v2321
  let c64_i32_518 : BitVec 32 := 64#32
  let v2369 : BitVec 32 := Scalar.muli v2368 c64_i32_518
  let v2370 : BitVec 32 := v2369
  let v2371 : Index := Scalar.indexCast v2370
  let c256_519 : Index := 256#32
  ![v2371.toNat, 256]
def k0_mult23 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_521 : BitVec 32 := 64#32
  let v2385 : BitVec 32 := Scalar.muli v2321 c64_i32_521
  v2385
def k0_off7 (k0_t1 : Fin k0_t1_loop.trips) (c0_i32_502 : BitVec 32) : Fin 2 → Nat :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_521 : BitVec 32 := 64#32
  let v2385 : BitVec 32 := Scalar.muli v2321 c64_i32_521
  let v2386 : BitVec 32 := v2385
  let v2387 : Index := Scalar.indexCast v2386
  let c384_522 : Index := 384#32
  ![v2387.toNat, 384]
def k0_mult24 (k0_t1 : Fin k0_t1_loop.trips) : BitVec 32 :=
  let c31_i32_523 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2389 : BitVec 32 := Scalar.subi c31_i32_523 v2321
  let c64_i32_524 : BitVec 32 := 64#32
  let v2390 : BitVec 32 := Scalar.muli v2389 c64_i32_524
  v2390
def k0_off8 (k0_t1 : Fin k0_t1_loop.trips) (c0_i32_502 : BitVec 32) : Fin 2 → Nat :=
  let c31_i32_523 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2389 : BitVec 32 := Scalar.subi c31_i32_523 v2321
  let c64_i32_524 : BitVec 32 := 64#32
  let v2390 : BitVec 32 := Scalar.muli v2389 c64_i32_524
  let v2391 : BitVec 32 := v2390
  let v2392 : Index := Scalar.indexCast v2391
  let c384_525 : Index := 384#32
  ![v2392.toNat, 384]
def k0_mult25 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c64_i32_527 : BitVec 32 := 64#32
  let v2406 : BitVec 32 := Scalar.muli v2319 c64_i32_527
  v2406
def k0_off9 (k0_t1 : Fin k0_t1_loop.trips) (c0_i32_502 : BitVec 32) : Fin 2 → Nat :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c64_i32_527 : BitVec 32 := 64#32
  let v2406 : BitVec 32 := Scalar.muli v2319 c64_i32_527
  let v2407 : BitVec 32 := v2406
  let v2408 : Index := Scalar.indexCast v2407
  let c0_528 : Index := 0#32
  ![v2408.toNat, 0]
def k0_mult26 (k0_t1 : Fin k0_t1_loop.trips) : BitVec 32 :=
  let c31_i32_563 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let v2447 : BitVec 32 := Scalar.subi c31_i32_563 v2319
  let c64_i32_564 : BitVec 32 := 64#32
  let v2448 : BitVec 32 := Scalar.muli v2447 c64_i32_564
  v2448
def k0_off10 (k0_t1 : Fin k0_t1_loop.trips) (c0_i32_502 : BitVec 32) : Fin 2 → Nat :=
  let c31_i32_563 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let v2447 : BitVec 32 := Scalar.subi c31_i32_563 v2319
  let c64_i32_564 : BitVec 32 := 64#32
  let v2448 : BitVec 32 := Scalar.muli v2447 c64_i32_564
  let v2449 : BitVec 32 := v2448
  let v2450 : Index := Scalar.indexCast v2449
  let c0_565 : Index := 0#32
  ![v2450.toNat, 0]
def k0_mult27 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c64_i32_600 : BitVec 32 := 64#32
  let v2489 : BitVec 32 := Scalar.muli v2319 c64_i32_600
  v2489
def k0_off11 (k0_t1 : Fin k0_t1_loop.trips) (c0_i32_502 : BitVec 32) : Fin 2 → Nat :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c64_i32_600 : BitVec 32 := 64#32
  let v2489 : BitVec 32 := Scalar.muli v2319 c64_i32_600
  let v2490 : BitVec 32 := v2489
  let v2491 : Index := Scalar.indexCast v2490
  let c128_601 : Index := 128#32
  ![v2491.toNat, 128]
def k0_mult28 (k0_t1 : Fin k0_t1_loop.trips) : BitVec 32 :=
  let c31_i32_636 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let v2530 : BitVec 32 := Scalar.subi c31_i32_636 v2319
  let c64_i32_637 : BitVec 32 := 64#32
  let v2531 : BitVec 32 := Scalar.muli v2530 c64_i32_637
  v2531
def k0_off12 (k0_t1 : Fin k0_t1_loop.trips) (c0_i32_502 : BitVec 32) : Fin 2 → Nat :=
  let c31_i32_636 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let v2530 : BitVec 32 := Scalar.subi c31_i32_636 v2319
  let c64_i32_637 : BitVec 32 := 64#32
  let v2531 : BitVec 32 := Scalar.muli v2530 c64_i32_637
  let v2532 : BitVec 32 := v2531
  let v2533 : Index := Scalar.indexCast v2532
  let c128_638 : Index := 128#32
  ![v2533.toNat, 128]
def k0_mult29 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c64_i32_673 : BitVec 32 := 64#32
  let v2572 : BitVec 32 := Scalar.muli v2319 c64_i32_673
  v2572
def k0_off13 (k0_t1 : Fin k0_t1_loop.trips) (c0_i32_502 : BitVec 32) : Fin 2 → Nat :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c64_i32_673 : BitVec 32 := 64#32
  let v2572 : BitVec 32 := Scalar.muli v2319 c64_i32_673
  let v2573 : BitVec 32 := v2572
  let v2574 : Index := Scalar.indexCast v2573
  let c256_674 : Index := 256#32
  ![v2574.toNat, 256]
def k0_mult30 (k0_t1 : Fin k0_t1_loop.trips) : BitVec 32 :=
  let c31_i32_709 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let v2613 : BitVec 32 := Scalar.subi c31_i32_709 v2319
  let c64_i32_710 : BitVec 32 := 64#32
  let v2614 : BitVec 32 := Scalar.muli v2613 c64_i32_710
  v2614
def k0_off14 (k0_t1 : Fin k0_t1_loop.trips) (c0_i32_502 : BitVec 32) : Fin 2 → Nat :=
  let c31_i32_709 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let v2613 : BitVec 32 := Scalar.subi c31_i32_709 v2319
  let c64_i32_710 : BitVec 32 := 64#32
  let v2614 : BitVec 32 := Scalar.muli v2613 c64_i32_710
  let v2615 : BitVec 32 := v2614
  let v2616 : Index := Scalar.indexCast v2615
  let c256_711 : Index := 256#32
  ![v2616.toNat, 256]
def k0_mult31 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c64_i32_746 : BitVec 32 := 64#32
  let v2655 : BitVec 32 := Scalar.muli v2319 c64_i32_746
  v2655
def k0_off15 (k0_t1 : Fin k0_t1_loop.trips) (c0_i32_502 : BitVec 32) : Fin 2 → Nat :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let c64_i32_746 : BitVec 32 := 64#32
  let v2655 : BitVec 32 := Scalar.muli v2319 c64_i32_746
  let v2656 : BitVec 32 := v2655
  let v2657 : Index := Scalar.indexCast v2656
  let c384_747 : Index := 384#32
  ![v2657.toNat, 384]
def k0_mult32 (k0_t1 : Fin k0_t1_loop.trips) : BitVec 32 :=
  let c31_i32_782 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let v2696 : BitVec 32 := Scalar.subi c31_i32_782 v2319
  let c64_i32_783 : BitVec 32 := 64#32
  let v2697 : BitVec 32 := Scalar.muli v2696 c64_i32_783
  v2697
def k0_off16 (k0_t1 : Fin k0_t1_loop.trips) (c0_i32_502 : BitVec 32) : Fin 2 → Nat :=
  let c31_i32_782 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let v2319 : BitVec 32 := Scalar.addi v2318 c0_i32_502
  let v2696 : BitVec 32 := Scalar.subi c31_i32_782 v2319
  let c64_i32_783 : BitVec 32 := 64#32
  let v2697 : BitVec 32 := Scalar.muli v2696 c64_i32_783
  let v2698 : BitVec 32 := v2697
  let v2699 : Index := Scalar.indexCast v2698
  let c384_784 : Index := 384#32
  ![v2699.toNat, 384]
def k0_mult33 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_819 : BitVec 32 := 64#32
  let v2738 : BitVec 32 := Scalar.muli v2321 c64_i32_819
  v2738
def k0_mult34 (k0_t1 : Fin k0_t1_loop.trips) : BitVec 32 :=
  let c31_i32_839 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2913 : BitVec 32 := Scalar.subi c31_i32_839 v2321
  let c64_i32_840 : BitVec 32 := 64#32
  let v2914 : BitVec 32 := Scalar.muli v2913 c64_i32_840
  v2914
def k0_mult35 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_860 : BitVec 32 := 64#32
  let v3089 : BitVec 32 := Scalar.muli v2321 c64_i32_860
  v3089
def k0_mult36 (k0_t1 : Fin k0_t1_loop.trips) : BitVec 32 :=
  let c31_i32_880 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v3264 : BitVec 32 := Scalar.subi c31_i32_880 v2321
  let c64_i32_881 : BitVec 32 := 64#32
  let v3265 : BitVec 32 := Scalar.muli v3264 c64_i32_881
  v3265
def k0_mult37 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_901 : BitVec 32 := 64#32
  let v3440 : BitVec 32 := Scalar.muli v2321 c64_i32_901
  v3440
def k0_mult38 (k0_t1 : Fin k0_t1_loop.trips) : BitVec 32 :=
  let c31_i32_921 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v3615 : BitVec 32 := Scalar.subi c31_i32_921 v2321
  let c64_i32_922 : BitVec 32 := 64#32
  let v3616 : BitVec 32 := Scalar.muli v3615 c64_i32_922
  v3616
def k0_mult39 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_942 : BitVec 32 := 64#32
  let v3791 : BitVec 32 := Scalar.muli v2321 c64_i32_942
  v3791
def k0_mult40 (k0_t1 : Fin k0_t1_loop.trips) : BitVec 32 :=
  let c31_i32_962 : BitVec 32 := 31#32
  let c0_i32_494 : BitVec 32 := 0#32
  let c1_i32_495 : BitVec 32 := 1#32
  let arg20 : BitVec 32 := Scf.iv c0_i32_494 c1_i32_495 k0_t1
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v3966 : BitVec 32 := Scalar.subi c31_i32_962 v2321
  let c64_i32_963 : BitVec 32 := 64#32
  let v3967 : BitVec 32 := Scalar.muli v3966 c64_i32_963
  v3967
def k0_mult41 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let c64_i32_1043 : BitVec 32 := 64#32
  let v4234 : BitVec 32 := Scalar.muli v4233 c64_i32_1043
  v4234
def k0_mult42 (k0_t1 : Fin k0_t1_loop.trips) : BitVec 32 :=
  let c31_i32_1045 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let v4238 : BitVec 32 := Scalar.subi c31_i32_1045 v4233
  let c64_i32_1046 : BitVec 32 := 64#32
  let v4239 : BitVec 32 := Scalar.muli v4238 c64_i32_1046
  v4239
def k0_mult43 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let c64_i32_1049 : BitVec 32 := 64#32
  let v4255 : BitVec 32 := Scalar.muli v4233 c64_i32_1049
  v4255
def k0_mult44 (k0_t1 : Fin k0_t1_loop.trips) : BitVec 32 :=
  let c31_i32_1051 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let v4259 : BitVec 32 := Scalar.subi c31_i32_1051 v4233
  let c64_i32_1052 : BitVec 32 := 64#32
  let v4260 : BitVec 32 := Scalar.muli v4259 c64_i32_1052
  v4260
def k0_mult45 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let c64_i32_1055 : BitVec 32 := 64#32
  let v4276 : BitVec 32 := Scalar.muli v4233 c64_i32_1055
  v4276
def k0_mult46 (k0_t1 : Fin k0_t1_loop.trips) : BitVec 32 :=
  let c31_i32_1057 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let v4280 : BitVec 32 := Scalar.subi c31_i32_1057 v4233
  let c64_i32_1058 : BitVec 32 := 64#32
  let v4281 : BitVec 32 := Scalar.muli v4280 c64_i32_1058
  v4281
def k0_mult47 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let c64_i32_1061 : BitVec 32 := 64#32
  let v4297 : BitVec 32 := Scalar.muli v4233 c64_i32_1061
  v4297
def k0_mult48 (k0_t1 : Fin k0_t1_loop.trips) : BitVec 32 :=
  let c31_i32_1063 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let v4301 : BitVec 32 := Scalar.subi c31_i32_1063 v4233
  let c64_i32_1064 : BitVec 32 := 64#32
  let v4302 : BitVec 32 := Scalar.muli v4301 c64_i32_1064
  v4302
def k0_mult49 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c64_i32_1067 : BitVec 32 := 64#32
  let v4318 : BitVec 32 := Scalar.muli v4231 c64_i32_1067
  v4318
def k0_mult50 (k0_t1 : Fin k0_t1_loop.trips) : BitVec 32 :=
  let c31_i32_1103 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let v4359 : BitVec 32 := Scalar.subi c31_i32_1103 v4231
  let c64_i32_1104 : BitVec 32 := 64#32
  let v4360 : BitVec 32 := Scalar.muli v4359 c64_i32_1104
  v4360
def k0_mult51 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c64_i32_1140 : BitVec 32 := 64#32
  let v4401 : BitVec 32 := Scalar.muli v4231 c64_i32_1140
  v4401
def k0_mult52 (k0_t1 : Fin k0_t1_loop.trips) : BitVec 32 :=
  let c31_i32_1176 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let v4442 : BitVec 32 := Scalar.subi c31_i32_1176 v4231
  let c64_i32_1177 : BitVec 32 := 64#32
  let v4443 : BitVec 32 := Scalar.muli v4442 c64_i32_1177
  v4443
def k0_mult53 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c64_i32_1213 : BitVec 32 := 64#32
  let v4484 : BitVec 32 := Scalar.muli v4231 c64_i32_1213
  v4484
def k0_mult54 (k0_t1 : Fin k0_t1_loop.trips) : BitVec 32 :=
  let c31_i32_1249 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let v4525 : BitVec 32 := Scalar.subi c31_i32_1249 v4231
  let c64_i32_1250 : BitVec 32 := 64#32
  let v4526 : BitVec 32 := Scalar.muli v4525 c64_i32_1250
  v4526
def k0_mult55 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c64_i32_1286 : BitVec 32 := 64#32
  let v4567 : BitVec 32 := Scalar.muli v4231 c64_i32_1286
  v4567
def k0_mult56 (k0_t1 : Fin k0_t1_loop.trips) : BitVec 32 :=
  let c31_i32_1322 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let v4608 : BitVec 32 := Scalar.subi c31_i32_1322 v4231
  let c64_i32_1323 : BitVec 32 := 64#32
  let v4609 : BitVec 32 := Scalar.muli v4608 c64_i32_1323
  v4609
def k0_mult57 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let c64_i32_1359 : BitVec 32 := 64#32
  let v4650 : BitVec 32 := Scalar.muli v4233 c64_i32_1359
  v4650
def k0_mult58 (k0_t1 : Fin k0_t1_loop.trips) : BitVec 32 :=
  let c31_i32_1379 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let v4825 : BitVec 32 := Scalar.subi c31_i32_1379 v4233
  let c64_i32_1380 : BitVec 32 := 64#32
  let v4826 : BitVec 32 := Scalar.muli v4825 c64_i32_1380
  v4826
def k0_mult59 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let c64_i32_1400 : BitVec 32 := 64#32
  let v5001 : BitVec 32 := Scalar.muli v4233 c64_i32_1400
  v5001
def k0_mult60 (k0_t1 : Fin k0_t1_loop.trips) : BitVec 32 :=
  let c31_i32_1420 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let v5176 : BitVec 32 := Scalar.subi c31_i32_1420 v4233
  let c64_i32_1421 : BitVec 32 := 64#32
  let v5177 : BitVec 32 := Scalar.muli v5176 c64_i32_1421
  v5177
def k0_mult61 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let c64_i32_1441 : BitVec 32 := 64#32
  let v5352 : BitVec 32 := Scalar.muli v4233 c64_i32_1441
  v5352
def k0_mult62 (k0_t1 : Fin k0_t1_loop.trips) : BitVec 32 :=
  let c31_i32_1461 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let v5527 : BitVec 32 := Scalar.subi c31_i32_1461 v4233
  let c64_i32_1462 : BitVec 32 := 64#32
  let v5528 : BitVec 32 := Scalar.muli v5527 c64_i32_1462
  v5528
def k0_mult63 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let c64_i32_1482 : BitVec 32 := 64#32
  let v5703 : BitVec 32 := Scalar.muli v4233 c64_i32_1482
  v5703
def k0_mult64 (k0_t1 : Fin k0_t1_loop.trips) : BitVec 32 :=
  let c31_i32_1502 : BitVec 32 := 31#32
  let c0_i32_494 : BitVec 32 := 0#32
  let c1_i32_495 : BitVec 32 := 1#32
  let arg20 : BitVec 32 := Scf.iv c0_i32_494 c1_i32_495 k0_t1
  let c4_i32_1039 : BitVec 32 := 4#32
  let v4230 : BitVec 32 := Scalar.muli arg20 c4_i32_1039
  let c1_i32_1040 : BitVec 32 := 1#32
  let v4231 : BitVec 32 := Scalar.addi v4230 c1_i32_1040
  let c1_i32_1041 : BitVec 32 := 1#32
  let v4232 : BitVec 32 := Scalar.addi v4231 c1_i32_1041
  let c31_i32_1042 : BitVec 32 := 31#32
  let v4233 : BitVec 32 := Scalar.minsi v4232 c31_i32_1042
  let v5878 : BitVec 32 := Scalar.subi c31_i32_1502 v4233
  let c64_i32_1503 : BitVec 32 := 64#32
  let v5879 : BitVec 32 := Scalar.muli v5878 c64_i32_1503
  v5879
def k0_mult65 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let c64_i32_1582 : BitVec 32 := 64#32
  let v6146 : BitVec 32 := Scalar.muli v6145 c64_i32_1582
  v6146
def k0_mult66 (k0_t1 : Fin k0_t1_loop.trips) : BitVec 32 :=
  let c31_i32_1584 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let v6150 : BitVec 32 := Scalar.subi c31_i32_1584 v6145
  let c64_i32_1585 : BitVec 32 := 64#32
  let v6151 : BitVec 32 := Scalar.muli v6150 c64_i32_1585
  v6151
def k0_mult67 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let c64_i32_1588 : BitVec 32 := 64#32
  let v6167 : BitVec 32 := Scalar.muli v6145 c64_i32_1588
  v6167
def k0_mult68 (k0_t1 : Fin k0_t1_loop.trips) : BitVec 32 :=
  let c31_i32_1590 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let v6171 : BitVec 32 := Scalar.subi c31_i32_1590 v6145
  let c64_i32_1591 : BitVec 32 := 64#32
  let v6172 : BitVec 32 := Scalar.muli v6171 c64_i32_1591
  v6172
def k0_mult69 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let c64_i32_1594 : BitVec 32 := 64#32
  let v6188 : BitVec 32 := Scalar.muli v6145 c64_i32_1594
  v6188
def k0_mult70 (k0_t1 : Fin k0_t1_loop.trips) : BitVec 32 :=
  let c31_i32_1596 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let v6192 : BitVec 32 := Scalar.subi c31_i32_1596 v6145
  let c64_i32_1597 : BitVec 32 := 64#32
  let v6193 : BitVec 32 := Scalar.muli v6192 c64_i32_1597
  v6193
def k0_mult71 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let c64_i32_1600 : BitVec 32 := 64#32
  let v6209 : BitVec 32 := Scalar.muli v6145 c64_i32_1600
  v6209
def k0_mult72 (k0_t1 : Fin k0_t1_loop.trips) : BitVec 32 :=
  let c31_i32_1602 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let v6213 : BitVec 32 := Scalar.subi c31_i32_1602 v6145
  let c64_i32_1603 : BitVec 32 := 64#32
  let v6214 : BitVec 32 := Scalar.muli v6213 c64_i32_1603
  v6214
def k0_mult73 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c64_i32_1606 : BitVec 32 := 64#32
  let v6230 : BitVec 32 := Scalar.muli v6143 c64_i32_1606
  v6230
def k0_mult74 (k0_t1 : Fin k0_t1_loop.trips) : BitVec 32 :=
  let c31_i32_1642 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let v6271 : BitVec 32 := Scalar.subi c31_i32_1642 v6143
  let c64_i32_1643 : BitVec 32 := 64#32
  let v6272 : BitVec 32 := Scalar.muli v6271 c64_i32_1643
  v6272
def k0_mult75 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c64_i32_1679 : BitVec 32 := 64#32
  let v6313 : BitVec 32 := Scalar.muli v6143 c64_i32_1679
  v6313
def k0_mult76 (k0_t1 : Fin k0_t1_loop.trips) : BitVec 32 :=
  let c31_i32_1715 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let v6354 : BitVec 32 := Scalar.subi c31_i32_1715 v6143
  let c64_i32_1716 : BitVec 32 := 64#32
  let v6355 : BitVec 32 := Scalar.muli v6354 c64_i32_1716
  v6355
def k0_mult77 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c64_i32_1752 : BitVec 32 := 64#32
  let v6396 : BitVec 32 := Scalar.muli v6143 c64_i32_1752
  v6396
def k0_mult78 (k0_t1 : Fin k0_t1_loop.trips) : BitVec 32 :=
  let c31_i32_1788 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let v6437 : BitVec 32 := Scalar.subi c31_i32_1788 v6143
  let c64_i32_1789 : BitVec 32 := 64#32
  let v6438 : BitVec 32 := Scalar.muli v6437 c64_i32_1789
  v6438
def k0_mult79 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c64_i32_1825 : BitVec 32 := 64#32
  let v6479 : BitVec 32 := Scalar.muli v6143 c64_i32_1825
  v6479
def k0_mult80 (k0_t1 : Fin k0_t1_loop.trips) : BitVec 32 :=
  let c31_i32_1861 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let v6520 : BitVec 32 := Scalar.subi c31_i32_1861 v6143
  let c64_i32_1862 : BitVec 32 := 64#32
  let v6521 : BitVec 32 := Scalar.muli v6520 c64_i32_1862
  v6521
def k0_mult81 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let c64_i32_1898 : BitVec 32 := 64#32
  let v6562 : BitVec 32 := Scalar.muli v6145 c64_i32_1898
  v6562
def k0_mult82 (k0_t1 : Fin k0_t1_loop.trips) : BitVec 32 :=
  let c31_i32_1918 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let v6737 : BitVec 32 := Scalar.subi c31_i32_1918 v6145
  let c64_i32_1919 : BitVec 32 := 64#32
  let v6738 : BitVec 32 := Scalar.muli v6737 c64_i32_1919
  v6738
def k0_mult83 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let c64_i32_1939 : BitVec 32 := 64#32
  let v6913 : BitVec 32 := Scalar.muli v6145 c64_i32_1939
  v6913
def k0_mult84 (k0_t1 : Fin k0_t1_loop.trips) : BitVec 32 :=
  let c31_i32_1959 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let v7088 : BitVec 32 := Scalar.subi c31_i32_1959 v6145
  let c64_i32_1960 : BitVec 32 := 64#32
  let v7089 : BitVec 32 := Scalar.muli v7088 c64_i32_1960
  v7089
def k0_mult85 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let c64_i32_1980 : BitVec 32 := 64#32
  let v7264 : BitVec 32 := Scalar.muli v6145 c64_i32_1980
  v7264
def k0_mult86 (k0_t1 : Fin k0_t1_loop.trips) : BitVec 32 :=
  let c31_i32_2000 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let v7439 : BitVec 32 := Scalar.subi c31_i32_2000 v6145
  let c64_i32_2001 : BitVec 32 := 64#32
  let v7440 : BitVec 32 := Scalar.muli v7439 c64_i32_2001
  v7440
def k0_mult87 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let c64_i32_2021 : BitVec 32 := 64#32
  let v7615 : BitVec 32 := Scalar.muli v6145 c64_i32_2021
  v7615
def k0_mult88 (k0_t1 : Fin k0_t1_loop.trips) : BitVec 32 :=
  let c31_i32_2041 : BitVec 32 := 31#32
  let c0_i32_494 : BitVec 32 := 0#32
  let c1_i32_495 : BitVec 32 := 1#32
  let arg20 : BitVec 32 := Scf.iv c0_i32_494 c1_i32_495 k0_t1
  let c4_i32_1579 : BitVec 32 := 4#32
  let v6142 : BitVec 32 := Scalar.muli arg20 c4_i32_1579
  let c2_i32 : BitVec 32 := 2#32
  let v6143 : BitVec 32 := Scalar.addi v6142 c2_i32
  let c1_i32_1580 : BitVec 32 := 1#32
  let v6144 : BitVec 32 := Scalar.addi v6143 c1_i32_1580
  let c31_i32_1581 : BitVec 32 := 31#32
  let v6145 : BitVec 32 := Scalar.minsi v6144 c31_i32_1581
  let v7790 : BitVec 32 := Scalar.subi c31_i32_2041 v6145
  let c64_i32_2042 : BitVec 32 := 64#32
  let v7791 : BitVec 32 := Scalar.muli v7790 c64_i32_2042
  v7791
def k0_mult89 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let c64_i32_2121 : BitVec 32 := 64#32
  let v8058 : BitVec 32 := Scalar.muli v8057 c64_i32_2121
  v8058
def k0_mult90 (k0_t1 : Fin k0_t1_loop.trips) : BitVec 32 :=
  let c31_i32_2123 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let v8062 : BitVec 32 := Scalar.subi c31_i32_2123 v8057
  let c64_i32_2124 : BitVec 32 := 64#32
  let v8063 : BitVec 32 := Scalar.muli v8062 c64_i32_2124
  v8063
def k0_mult91 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let c64_i32_2127 : BitVec 32 := 64#32
  let v8079 : BitVec 32 := Scalar.muli v8057 c64_i32_2127
  v8079
def k0_mult92 (k0_t1 : Fin k0_t1_loop.trips) : BitVec 32 :=
  let c31_i32_2129 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let v8083 : BitVec 32 := Scalar.subi c31_i32_2129 v8057
  let c64_i32_2130 : BitVec 32 := 64#32
  let v8084 : BitVec 32 := Scalar.muli v8083 c64_i32_2130
  v8084
def k0_mult93 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let c64_i32_2133 : BitVec 32 := 64#32
  let v8100 : BitVec 32 := Scalar.muli v8057 c64_i32_2133
  v8100
def k0_mult94 (k0_t1 : Fin k0_t1_loop.trips) : BitVec 32 :=
  let c31_i32_2135 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let v8104 : BitVec 32 := Scalar.subi c31_i32_2135 v8057
  let c64_i32_2136 : BitVec 32 := 64#32
  let v8105 : BitVec 32 := Scalar.muli v8104 c64_i32_2136
  v8105
def k0_mult95 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let c64_i32_2139 : BitVec 32 := 64#32
  let v8121 : BitVec 32 := Scalar.muli v8057 c64_i32_2139
  v8121
def k0_mult96 (k0_t1 : Fin k0_t1_loop.trips) : BitVec 32 :=
  let c31_i32_2141 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let v8125 : BitVec 32 := Scalar.subi c31_i32_2141 v8057
  let c64_i32_2142 : BitVec 32 := 64#32
  let v8126 : BitVec 32 := Scalar.muli v8125 c64_i32_2142
  v8126
def k0_mult97 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c64_i32_2145 : BitVec 32 := 64#32
  let v8142 : BitVec 32 := Scalar.muli v8055 c64_i32_2145
  v8142
def k0_mult98 (k0_t1 : Fin k0_t1_loop.trips) : BitVec 32 :=
  let c31_i32_2181 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let v8183 : BitVec 32 := Scalar.subi c31_i32_2181 v8055
  let c64_i32_2182 : BitVec 32 := 64#32
  let v8184 : BitVec 32 := Scalar.muli v8183 c64_i32_2182
  v8184
def k0_mult99 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c64_i32_2218 : BitVec 32 := 64#32
  let v8225 : BitVec 32 := Scalar.muli v8055 c64_i32_2218
  v8225
def k0_mult100 (k0_t1 : Fin k0_t1_loop.trips) : BitVec 32 :=
  let c31_i32_2254 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let v8266 : BitVec 32 := Scalar.subi c31_i32_2254 v8055
  let c64_i32_2255 : BitVec 32 := 64#32
  let v8267 : BitVec 32 := Scalar.muli v8266 c64_i32_2255
  v8267
def k0_mult101 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c64_i32_2291 : BitVec 32 := 64#32
  let v8308 : BitVec 32 := Scalar.muli v8055 c64_i32_2291
  v8308
def k0_mult102 (k0_t1 : Fin k0_t1_loop.trips) : BitVec 32 :=
  let c31_i32_2327 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let v8349 : BitVec 32 := Scalar.subi c31_i32_2327 v8055
  let c64_i32_2328 : BitVec 32 := 64#32
  let v8350 : BitVec 32 := Scalar.muli v8349 c64_i32_2328
  v8350
def k0_mult103 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c64_i32_2364 : BitVec 32 := 64#32
  let v8391 : BitVec 32 := Scalar.muli v8055 c64_i32_2364
  v8391
def k0_mult104 (k0_t1 : Fin k0_t1_loop.trips) : BitVec 32 :=
  let c31_i32_2400 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let v8432 : BitVec 32 := Scalar.subi c31_i32_2400 v8055
  let c64_i32_2401 : BitVec 32 := 64#32
  let v8433 : BitVec 32 := Scalar.muli v8432 c64_i32_2401
  v8433
def k0_mult105 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let c64_i32_2437 : BitVec 32 := 64#32
  let v8474 : BitVec 32 := Scalar.muli v8057 c64_i32_2437
  v8474
def k0_mult106 (k0_t1 : Fin k0_t1_loop.trips) : BitVec 32 :=
  let c31_i32_2457 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let v8649 : BitVec 32 := Scalar.subi c31_i32_2457 v8057
  let c64_i32_2458 : BitVec 32 := 64#32
  let v8650 : BitVec 32 := Scalar.muli v8649 c64_i32_2458
  v8650
def k0_mult107 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let c64_i32_2478 : BitVec 32 := 64#32
  let v8825 : BitVec 32 := Scalar.muli v8057 c64_i32_2478
  v8825
def k0_mult108 (k0_t1 : Fin k0_t1_loop.trips) : BitVec 32 :=
  let c31_i32_2498 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let v9000 : BitVec 32 := Scalar.subi c31_i32_2498 v8057
  let c64_i32_2499 : BitVec 32 := 64#32
  let v9001 : BitVec 32 := Scalar.muli v9000 c64_i32_2499
  v9001
def k0_mult109 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let c64_i32_2519 : BitVec 32 := 64#32
  let v9176 : BitVec 32 := Scalar.muli v8057 c64_i32_2519
  v9176
def k0_mult110 (k0_t1 : Fin k0_t1_loop.trips) : BitVec 32 :=
  let c31_i32_2539 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let v9351 : BitVec 32 := Scalar.subi c31_i32_2539 v8057
  let c64_i32_2540 : BitVec 32 := 64#32
  let v9352 : BitVec 32 := Scalar.muli v9351 c64_i32_2540
  v9352
def k0_mult111 (k0_t1 : Fin k0_t1_loop.trips) : BitVec 32 :=
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let c64_i32_2560 : BitVec 32 := 64#32
  let v9527 : BitVec 32 := Scalar.muli v8057 c64_i32_2560
  v9527
def k0_mult112 (k0_t1 : Fin k0_t1_loop.trips) : BitVec 32 :=
  let c31_i32_2580 : BitVec 32 := 31#32
  let c0_i32_494 : BitVec 32 := 0#32
  let c1_i32_495 : BitVec 32 := 1#32
  let arg20 : BitVec 32 := Scf.iv c0_i32_494 c1_i32_495 k0_t1
  let c4_i32_2118 : BitVec 32 := 4#32
  let v8054 : BitVec 32 := Scalar.muli arg20 c4_i32_2118
  let c3_i32 : BitVec 32 := 3#32
  let v8055 : BitVec 32 := Scalar.addi v8054 c3_i32
  let c1_i32_2119 : BitVec 32 := 1#32
  let v8056 : BitVec 32 := Scalar.addi v8055 c1_i32_2119
  let c31_i32_2120 : BitVec 32 := 31#32
  let v8057 : BitVec 32 := Scalar.minsi v8056 c31_i32_2120
  let v9702 : BitVec 32 := Scalar.subi c31_i32_2580 v8057
  let c64_i32_2581 : BitVec 32 := 64#32
  let v9703 : BitVec 32 := Scalar.muli v9702 c64_i32_2581
  v9703
@[reducible] def k0_t2_loop : Scf.Loop 32 :=
  let c4_i32_497 : BitVec 32 := 4#32
  let c4_i32_498 : BitVec 32 := 4#32
  let v2317 : BitVec 32 := Scalar.addi c4_i32_497 c4_i32_498
  let c1_i32_499 : BitVec 32 := 1#32
  ⟨c4_i32_497, v2317, c1_i32_499⟩
def k0_mult113 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32 : BitVec 32 := 64#32
  let v2322 : BitVec 32 := Scalar.muli v2321 c64_i32
  v2322
def k0_off17 (k0_t2 : Fin k0_t2_loop.trips) (c0_i32_502 : BitVec 32) : Fin 2 → Nat :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32 : BitVec 32 := 64#32
  let v2322 : BitVec 32 := Scalar.muli v2321 c64_i32
  let v2323 : BitVec 32 := v2322
  let v2324 : Index := Scalar.indexCast v2323
  let c0_504 : Index := 0#32
  ![v2324.toNat, 0]
def k0_mult114 (k0_t2 : Fin k0_t2_loop.trips) : BitVec 32 :=
  let c31_i32_505 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2326 : BitVec 32 := Scalar.subi c31_i32_505 v2321
  let c64_i32_506 : BitVec 32 := 64#32
  let v2327 : BitVec 32 := Scalar.muli v2326 c64_i32_506
  v2327
def k0_off18 (k0_t2 : Fin k0_t2_loop.trips) (c0_i32_502 : BitVec 32) : Fin 2 → Nat :=
  let c31_i32_505 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2326 : BitVec 32 := Scalar.subi c31_i32_505 v2321
  let c64_i32_506 : BitVec 32 := 64#32
  let v2327 : BitVec 32 := Scalar.muli v2326 c64_i32_506
  let v2328 : BitVec 32 := v2327
  let v2329 : Index := Scalar.indexCast v2328
  let c0_507 : Index := 0#32
  ![v2329.toNat, 0]
def k0_mult115 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_509 : BitVec 32 := 64#32
  let v2343 : BitVec 32 := Scalar.muli v2321 c64_i32_509
  v2343
def k0_off19 (k0_t2 : Fin k0_t2_loop.trips) (c0_i32_502 : BitVec 32) : Fin 2 → Nat :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_509 : BitVec 32 := 64#32
  let v2343 : BitVec 32 := Scalar.muli v2321 c64_i32_509
  let v2344 : BitVec 32 := v2343
  let v2345 : Index := Scalar.indexCast v2344
  let c128_510 : Index := 128#32
  ![v2345.toNat, 128]
def k0_mult116 (k0_t2 : Fin k0_t2_loop.trips) : BitVec 32 :=
  let c31_i32_511 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2347 : BitVec 32 := Scalar.subi c31_i32_511 v2321
  let c64_i32_512 : BitVec 32 := 64#32
  let v2348 : BitVec 32 := Scalar.muli v2347 c64_i32_512
  v2348
def k0_off20 (k0_t2 : Fin k0_t2_loop.trips) (c0_i32_502 : BitVec 32) : Fin 2 → Nat :=
  let c31_i32_511 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2347 : BitVec 32 := Scalar.subi c31_i32_511 v2321
  let c64_i32_512 : BitVec 32 := 64#32
  let v2348 : BitVec 32 := Scalar.muli v2347 c64_i32_512
  let v2349 : BitVec 32 := v2348
  let v2350 : Index := Scalar.indexCast v2349
  let c128_513 : Index := 128#32
  ![v2350.toNat, 128]
def k0_mult117 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_515 : BitVec 32 := 64#32
  let v2364 : BitVec 32 := Scalar.muli v2321 c64_i32_515
  v2364
def k0_off21 (k0_t2 : Fin k0_t2_loop.trips) (c0_i32_502 : BitVec 32) : Fin 2 → Nat :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_515 : BitVec 32 := 64#32
  let v2364 : BitVec 32 := Scalar.muli v2321 c64_i32_515
  let v2365 : BitVec 32 := v2364
  let v2366 : Index := Scalar.indexCast v2365
  let c256_516 : Index := 256#32
  ![v2366.toNat, 256]
def k0_mult118 (k0_t2 : Fin k0_t2_loop.trips) : BitVec 32 :=
  let c31_i32_517 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2368 : BitVec 32 := Scalar.subi c31_i32_517 v2321
  let c64_i32_518 : BitVec 32 := 64#32
  let v2369 : BitVec 32 := Scalar.muli v2368 c64_i32_518
  v2369
def k0_off22 (k0_t2 : Fin k0_t2_loop.trips) (c0_i32_502 : BitVec 32) : Fin 2 → Nat :=
  let c31_i32_517 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2368 : BitVec 32 := Scalar.subi c31_i32_517 v2321
  let c64_i32_518 : BitVec 32 := 64#32
  let v2369 : BitVec 32 := Scalar.muli v2368 c64_i32_518
  let v2370 : BitVec 32 := v2369
  let v2371 : Index := Scalar.indexCast v2370
  let c256_519 : Index := 256#32
  ![v2371.toNat, 256]
def k0_mult119 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_521 : BitVec 32 := 64#32
  let v2385 : BitVec 32 := Scalar.muli v2321 c64_i32_521
  v2385
def k0_off23 (k0_t2 : Fin k0_t2_loop.trips) (c0_i32_502 : BitVec 32) : Fin 2 → Nat :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_521 : BitVec 32 := 64#32
  let v2385 : BitVec 32 := Scalar.muli v2321 c64_i32_521
  let v2386 : BitVec 32 := v2385
  let v2387 : Index := Scalar.indexCast v2386
  let c384_522 : Index := 384#32
  ![v2387.toNat, 384]
def k0_mult120 (k0_t2 : Fin k0_t2_loop.trips) : BitVec 32 :=
  let c31_i32_523 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2389 : BitVec 32 := Scalar.subi c31_i32_523 v2321
  let c64_i32_524 : BitVec 32 := 64#32
  let v2390 : BitVec 32 := Scalar.muli v2389 c64_i32_524
  v2390
def k0_off24 (k0_t2 : Fin k0_t2_loop.trips) (c0_i32_502 : BitVec 32) : Fin 2 → Nat :=
  let c31_i32_523 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2389 : BitVec 32 := Scalar.subi c31_i32_523 v2321
  let c64_i32_524 : BitVec 32 := 64#32
  let v2390 : BitVec 32 := Scalar.muli v2389 c64_i32_524
  let v2391 : BitVec 32 := v2390
  let v2392 : Index := Scalar.indexCast v2391
  let c384_525 : Index := 384#32
  ![v2392.toNat, 384]
def k0_mult121 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c64_i32_527 : BitVec 32 := 64#32
  let v2406 : BitVec 32 := Scalar.muli v2319 c64_i32_527
  v2406
def k0_off25 (k0_t2 : Fin k0_t2_loop.trips) (c0_i32_502 : BitVec 32) : Fin 2 → Nat :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c64_i32_527 : BitVec 32 := 64#32
  let v2406 : BitVec 32 := Scalar.muli v2319 c64_i32_527
  let v2407 : BitVec 32 := v2406
  let v2408 : Index := Scalar.indexCast v2407
  let c0_528 : Index := 0#32
  ![v2408.toNat, 0]
def k0_mult122 (k0_t2 : Fin k0_t2_loop.trips) : BitVec 32 :=
  let c31_i32_563 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let v2447 : BitVec 32 := Scalar.subi c31_i32_563 v2319
  let c64_i32_564 : BitVec 32 := 64#32
  let v2448 : BitVec 32 := Scalar.muli v2447 c64_i32_564
  v2448
def k0_off26 (k0_t2 : Fin k0_t2_loop.trips) (c0_i32_502 : BitVec 32) : Fin 2 → Nat :=
  let c31_i32_563 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let v2447 : BitVec 32 := Scalar.subi c31_i32_563 v2319
  let c64_i32_564 : BitVec 32 := 64#32
  let v2448 : BitVec 32 := Scalar.muli v2447 c64_i32_564
  let v2449 : BitVec 32 := v2448
  let v2450 : Index := Scalar.indexCast v2449
  let c0_565 : Index := 0#32
  ![v2450.toNat, 0]
def k0_mult123 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c64_i32_600 : BitVec 32 := 64#32
  let v2489 : BitVec 32 := Scalar.muli v2319 c64_i32_600
  v2489
def k0_off27 (k0_t2 : Fin k0_t2_loop.trips) (c0_i32_502 : BitVec 32) : Fin 2 → Nat :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c64_i32_600 : BitVec 32 := 64#32
  let v2489 : BitVec 32 := Scalar.muli v2319 c64_i32_600
  let v2490 : BitVec 32 := v2489
  let v2491 : Index := Scalar.indexCast v2490
  let c128_601 : Index := 128#32
  ![v2491.toNat, 128]
def k0_mult124 (k0_t2 : Fin k0_t2_loop.trips) : BitVec 32 :=
  let c31_i32_636 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let v2530 : BitVec 32 := Scalar.subi c31_i32_636 v2319
  let c64_i32_637 : BitVec 32 := 64#32
  let v2531 : BitVec 32 := Scalar.muli v2530 c64_i32_637
  v2531
def k0_off28 (k0_t2 : Fin k0_t2_loop.trips) (c0_i32_502 : BitVec 32) : Fin 2 → Nat :=
  let c31_i32_636 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let v2530 : BitVec 32 := Scalar.subi c31_i32_636 v2319
  let c64_i32_637 : BitVec 32 := 64#32
  let v2531 : BitVec 32 := Scalar.muli v2530 c64_i32_637
  let v2532 : BitVec 32 := v2531
  let v2533 : Index := Scalar.indexCast v2532
  let c128_638 : Index := 128#32
  ![v2533.toNat, 128]
def k0_mult125 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c64_i32_673 : BitVec 32 := 64#32
  let v2572 : BitVec 32 := Scalar.muli v2319 c64_i32_673
  v2572
def k0_off29 (k0_t2 : Fin k0_t2_loop.trips) (c0_i32_502 : BitVec 32) : Fin 2 → Nat :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c64_i32_673 : BitVec 32 := 64#32
  let v2572 : BitVec 32 := Scalar.muli v2319 c64_i32_673
  let v2573 : BitVec 32 := v2572
  let v2574 : Index := Scalar.indexCast v2573
  let c256_674 : Index := 256#32
  ![v2574.toNat, 256]
def k0_mult126 (k0_t2 : Fin k0_t2_loop.trips) : BitVec 32 :=
  let c31_i32_709 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let v2613 : BitVec 32 := Scalar.subi c31_i32_709 v2319
  let c64_i32_710 : BitVec 32 := 64#32
  let v2614 : BitVec 32 := Scalar.muli v2613 c64_i32_710
  v2614
def k0_off30 (k0_t2 : Fin k0_t2_loop.trips) (c0_i32_502 : BitVec 32) : Fin 2 → Nat :=
  let c31_i32_709 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let v2613 : BitVec 32 := Scalar.subi c31_i32_709 v2319
  let c64_i32_710 : BitVec 32 := 64#32
  let v2614 : BitVec 32 := Scalar.muli v2613 c64_i32_710
  let v2615 : BitVec 32 := v2614
  let v2616 : Index := Scalar.indexCast v2615
  let c256_711 : Index := 256#32
  ![v2616.toNat, 256]
def k0_mult127 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c64_i32_746 : BitVec 32 := 64#32
  let v2655 : BitVec 32 := Scalar.muli v2319 c64_i32_746
  v2655
def k0_off31 (k0_t2 : Fin k0_t2_loop.trips) (c0_i32_502 : BitVec 32) : Fin 2 → Nat :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let c64_i32_746 : BitVec 32 := 64#32
  let v2655 : BitVec 32 := Scalar.muli v2319 c64_i32_746
  let v2656 : BitVec 32 := v2655
  let v2657 : Index := Scalar.indexCast v2656
  let c384_747 : Index := 384#32
  ![v2657.toNat, 384]
def k0_mult128 (k0_t2 : Fin k0_t2_loop.trips) : BitVec 32 :=
  let c31_i32_782 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let v2696 : BitVec 32 := Scalar.subi c31_i32_782 v2319
  let c64_i32_783 : BitVec 32 := 64#32
  let v2697 : BitVec 32 := Scalar.muli v2696 c64_i32_783
  v2697
def k0_off32 (k0_t2 : Fin k0_t2_loop.trips) (c0_i32_502 : BitVec 32) : Fin 2 → Nat :=
  let c31_i32_782 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let v2319 : BitVec 32 := Scalar.addi v2318 c0_i32_502
  let v2696 : BitVec 32 := Scalar.subi c31_i32_782 v2319
  let c64_i32_783 : BitVec 32 := 64#32
  let v2697 : BitVec 32 := Scalar.muli v2696 c64_i32_783
  let v2698 : BitVec 32 := v2697
  let v2699 : Index := Scalar.indexCast v2698
  let c384_784 : Index := 384#32
  ![v2699.toNat, 384]
def k0_mult129 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_819 : BitVec 32 := 64#32
  let v2738 : BitVec 32 := Scalar.muli v2321 c64_i32_819
  v2738
def k0_mult130 (k0_t2 : Fin k0_t2_loop.trips) : BitVec 32 :=
  let c31_i32_839 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v2913 : BitVec 32 := Scalar.subi c31_i32_839 v2321
  let c64_i32_840 : BitVec 32 := 64#32
  let v2914 : BitVec 32 := Scalar.muli v2913 c64_i32_840
  v2914
def k0_mult131 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_860 : BitVec 32 := 64#32
  let v3089 : BitVec 32 := Scalar.muli v2321 c64_i32_860
  v3089
def k0_mult132 (k0_t2 : Fin k0_t2_loop.trips) : BitVec 32 :=
  let c31_i32_880 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v3264 : BitVec 32 := Scalar.subi c31_i32_880 v2321
  let c64_i32_881 : BitVec 32 := 64#32
  let v3265 : BitVec 32 := Scalar.muli v3264 c64_i32_881
  v3265
def k0_mult133 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_901 : BitVec 32 := 64#32
  let v3440 : BitVec 32 := Scalar.muli v2321 c64_i32_901
  v3440
def k0_mult134 (k0_t2 : Fin k0_t2_loop.trips) : BitVec 32 :=
  let c31_i32_921 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v3615 : BitVec 32 := Scalar.subi c31_i32_921 v2321
  let c64_i32_922 : BitVec 32 := 64#32
  let v3616 : BitVec 32 := Scalar.muli v3615 c64_i32_922
  v3616
def k0_mult135 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let c64_i32_942 : BitVec 32 := 64#32
  let v3791 : BitVec 32 := Scalar.muli v2321 c64_i32_942
  v3791
def k0_mult136 (k0_t2 : Fin k0_t2_loop.trips) : BitVec 32 :=
  let c31_i32_962 : BitVec 32 := 31#32
  let c4_i32_497 : BitVec 32 := 4#32
  let c1_i32_499 : BitVec 32 := 1#32
  let arg20 : BitVec 32 := Scf.iv c4_i32_497 c1_i32_499 k0_t2
  let c4_i32_501 : BitVec 32 := 4#32
  let v2318 : BitVec 32 := Scalar.muli arg20 c4_i32_501
  let c0_i32_502 : BitVec 32 := 0#32
  let v2319 : BitVec 32 := Scalar.addi v2318 c0_i32_502
  let c1_i32_503 : BitVec 32 := 1#32
  let v2320 : BitVec 32 := Scalar.addi v2319 c1_i32_503
  let c31_i32 : BitVec 32 := 31#32
  let v2321 : BitVec 32 := Scalar.minsi v2320 c31_i32
  let v3966 : BitVec 32 := Scalar.subi c31_i32_962 v2321
  let c64_i32_963 : BitVec 32 := 64#32
  let v3967 : BitVec 32 := Scalar.muli v3966 c64_i32_963
  v3967
def k0_mult137 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let c64_i32_1051 : BitVec 32 := 64#32
  let v4266 : BitVec 32 := Scalar.muli v4265 c64_i32_1051
  v4266
def k0_mult138 (k0_t2 : Fin k0_t2_loop.trips) : BitVec 32 :=
  let c31_i32_1053 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let v4270 : BitVec 32 := Scalar.subi c31_i32_1053 v4265
  let c64_i32_1054 : BitVec 32 := 64#32
  let v4271 : BitVec 32 := Scalar.muli v4270 c64_i32_1054
  v4271
def k0_mult139 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let c64_i32_1057 : BitVec 32 := 64#32
  let v4287 : BitVec 32 := Scalar.muli v4265 c64_i32_1057
  v4287
def k0_mult140 (k0_t2 : Fin k0_t2_loop.trips) : BitVec 32 :=
  let c31_i32_1059 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let v4291 : BitVec 32 := Scalar.subi c31_i32_1059 v4265
  let c64_i32_1060 : BitVec 32 := 64#32
  let v4292 : BitVec 32 := Scalar.muli v4291 c64_i32_1060
  v4292
def k0_mult141 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let c64_i32_1063 : BitVec 32 := 64#32
  let v4308 : BitVec 32 := Scalar.muli v4265 c64_i32_1063
  v4308
def k0_mult142 (k0_t2 : Fin k0_t2_loop.trips) : BitVec 32 :=
  let c31_i32_1065 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let v4312 : BitVec 32 := Scalar.subi c31_i32_1065 v4265
  let c64_i32_1066 : BitVec 32 := 64#32
  let v4313 : BitVec 32 := Scalar.muli v4312 c64_i32_1066
  v4313
def k0_mult143 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let c64_i32_1069 : BitVec 32 := 64#32
  let v4329 : BitVec 32 := Scalar.muli v4265 c64_i32_1069
  v4329
def k0_mult144 (k0_t2 : Fin k0_t2_loop.trips) : BitVec 32 :=
  let c31_i32_1071 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let v4333 : BitVec 32 := Scalar.subi c31_i32_1071 v4265
  let c64_i32_1072 : BitVec 32 := 64#32
  let v4334 : BitVec 32 := Scalar.muli v4333 c64_i32_1072
  v4334
def k0_mult145 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c64_i32_1075 : BitVec 32 := 64#32
  let v4350 : BitVec 32 := Scalar.muli v4263 c64_i32_1075
  v4350
def k0_mult146 (k0_t2 : Fin k0_t2_loop.trips) : BitVec 32 :=
  let c31_i32_1111 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let v4391 : BitVec 32 := Scalar.subi c31_i32_1111 v4263
  let c64_i32_1112 : BitVec 32 := 64#32
  let v4392 : BitVec 32 := Scalar.muli v4391 c64_i32_1112
  v4392
def k0_mult147 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c64_i32_1148 : BitVec 32 := 64#32
  let v4433 : BitVec 32 := Scalar.muli v4263 c64_i32_1148
  v4433
def k0_mult148 (k0_t2 : Fin k0_t2_loop.trips) : BitVec 32 :=
  let c31_i32_1184 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let v4474 : BitVec 32 := Scalar.subi c31_i32_1184 v4263
  let c64_i32_1185 : BitVec 32 := 64#32
  let v4475 : BitVec 32 := Scalar.muli v4474 c64_i32_1185
  v4475
def k0_mult149 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c64_i32_1221 : BitVec 32 := 64#32
  let v4516 : BitVec 32 := Scalar.muli v4263 c64_i32_1221
  v4516
def k0_mult150 (k0_t2 : Fin k0_t2_loop.trips) : BitVec 32 :=
  let c31_i32_1257 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let v4557 : BitVec 32 := Scalar.subi c31_i32_1257 v4263
  let c64_i32_1258 : BitVec 32 := 64#32
  let v4558 : BitVec 32 := Scalar.muli v4557 c64_i32_1258
  v4558
def k0_mult151 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c64_i32_1294 : BitVec 32 := 64#32
  let v4599 : BitVec 32 := Scalar.muli v4263 c64_i32_1294
  v4599
def k0_mult152 (k0_t2 : Fin k0_t2_loop.trips) : BitVec 32 :=
  let c31_i32_1330 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let v4640 : BitVec 32 := Scalar.subi c31_i32_1330 v4263
  let c64_i32_1331 : BitVec 32 := 64#32
  let v4641 : BitVec 32 := Scalar.muli v4640 c64_i32_1331
  v4641
def k0_mult153 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let c64_i32_1367 : BitVec 32 := 64#32
  let v4682 : BitVec 32 := Scalar.muli v4265 c64_i32_1367
  v4682
def k0_mult154 (k0_t2 : Fin k0_t2_loop.trips) : BitVec 32 :=
  let c31_i32_1387 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let v4857 : BitVec 32 := Scalar.subi c31_i32_1387 v4265
  let c64_i32_1388 : BitVec 32 := 64#32
  let v4858 : BitVec 32 := Scalar.muli v4857 c64_i32_1388
  v4858
def k0_mult155 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let c64_i32_1408 : BitVec 32 := 64#32
  let v5033 : BitVec 32 := Scalar.muli v4265 c64_i32_1408
  v5033
def k0_mult156 (k0_t2 : Fin k0_t2_loop.trips) : BitVec 32 :=
  let c31_i32_1428 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let v5208 : BitVec 32 := Scalar.subi c31_i32_1428 v4265
  let c64_i32_1429 : BitVec 32 := 64#32
  let v5209 : BitVec 32 := Scalar.muli v5208 c64_i32_1429
  v5209
def k0_mult157 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let c64_i32_1449 : BitVec 32 := 64#32
  let v5384 : BitVec 32 := Scalar.muli v4265 c64_i32_1449
  v5384
def k0_mult158 (k0_t2 : Fin k0_t2_loop.trips) : BitVec 32 :=
  let c31_i32_1469 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let v5559 : BitVec 32 := Scalar.subi c31_i32_1469 v4265
  let c64_i32_1470 : BitVec 32 := 64#32
  let v5560 : BitVec 32 := Scalar.muli v5559 c64_i32_1470
  v5560
def k0_mult159 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let c64_i32_1490 : BitVec 32 := 64#32
  let v5735 : BitVec 32 := Scalar.muli v4265 c64_i32_1490
  v5735
def k0_mult160 (k0_t2 : Fin k0_t2_loop.trips) : BitVec 32 :=
  let c31_i32_1510 : BitVec 32 := 31#32
  let c4_i32_497 : BitVec 32 := 4#32
  let c1_i32_499 : BitVec 32 := 1#32
  let arg20 : BitVec 32 := Scf.iv c4_i32_497 c1_i32_499 k0_t2
  let c4_i32_1047 : BitVec 32 := 4#32
  let v4262 : BitVec 32 := Scalar.muli arg20 c4_i32_1047
  let c1_i32_1048 : BitVec 32 := 1#32
  let v4263 : BitVec 32 := Scalar.addi v4262 c1_i32_1048
  let c1_i32_1049 : BitVec 32 := 1#32
  let v4264 : BitVec 32 := Scalar.addi v4263 c1_i32_1049
  let c31_i32_1050 : BitVec 32 := 31#32
  let v4265 : BitVec 32 := Scalar.minsi v4264 c31_i32_1050
  let v5910 : BitVec 32 := Scalar.subi c31_i32_1510 v4265
  let c64_i32_1511 : BitVec 32 := 64#32
  let v5911 : BitVec 32 := Scalar.muli v5910 c64_i32_1511
  v5911
def k0_mult161 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let c64_i32_1598 : BitVec 32 := 64#32
  let v6210 : BitVec 32 := Scalar.muli v6209 c64_i32_1598
  v6210
def k0_mult162 (k0_t2 : Fin k0_t2_loop.trips) : BitVec 32 :=
  let c31_i32_1600 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let v6214 : BitVec 32 := Scalar.subi c31_i32_1600 v6209
  let c64_i32_1601 : BitVec 32 := 64#32
  let v6215 : BitVec 32 := Scalar.muli v6214 c64_i32_1601
  v6215
def k0_mult163 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let c64_i32_1604 : BitVec 32 := 64#32
  let v6231 : BitVec 32 := Scalar.muli v6209 c64_i32_1604
  v6231
def k0_mult164 (k0_t2 : Fin k0_t2_loop.trips) : BitVec 32 :=
  let c31_i32_1606 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let v6235 : BitVec 32 := Scalar.subi c31_i32_1606 v6209
  let c64_i32_1607 : BitVec 32 := 64#32
  let v6236 : BitVec 32 := Scalar.muli v6235 c64_i32_1607
  v6236
def k0_mult165 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let c64_i32_1610 : BitVec 32 := 64#32
  let v6252 : BitVec 32 := Scalar.muli v6209 c64_i32_1610
  v6252
def k0_mult166 (k0_t2 : Fin k0_t2_loop.trips) : BitVec 32 :=
  let c31_i32_1612 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let v6256 : BitVec 32 := Scalar.subi c31_i32_1612 v6209
  let c64_i32_1613 : BitVec 32 := 64#32
  let v6257 : BitVec 32 := Scalar.muli v6256 c64_i32_1613
  v6257
def k0_mult167 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let c64_i32_1616 : BitVec 32 := 64#32
  let v6273 : BitVec 32 := Scalar.muli v6209 c64_i32_1616
  v6273
def k0_mult168 (k0_t2 : Fin k0_t2_loop.trips) : BitVec 32 :=
  let c31_i32_1618 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let v6277 : BitVec 32 := Scalar.subi c31_i32_1618 v6209
  let c64_i32_1619 : BitVec 32 := 64#32
  let v6278 : BitVec 32 := Scalar.muli v6277 c64_i32_1619
  v6278
def k0_mult169 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c64_i32_1622 : BitVec 32 := 64#32
  let v6294 : BitVec 32 := Scalar.muli v6207 c64_i32_1622
  v6294
def k0_mult170 (k0_t2 : Fin k0_t2_loop.trips) : BitVec 32 :=
  let c31_i32_1658 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let v6335 : BitVec 32 := Scalar.subi c31_i32_1658 v6207
  let c64_i32_1659 : BitVec 32 := 64#32
  let v6336 : BitVec 32 := Scalar.muli v6335 c64_i32_1659
  v6336
def k0_mult171 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c64_i32_1695 : BitVec 32 := 64#32
  let v6377 : BitVec 32 := Scalar.muli v6207 c64_i32_1695
  v6377
def k0_mult172 (k0_t2 : Fin k0_t2_loop.trips) : BitVec 32 :=
  let c31_i32_1731 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let v6418 : BitVec 32 := Scalar.subi c31_i32_1731 v6207
  let c64_i32_1732 : BitVec 32 := 64#32
  let v6419 : BitVec 32 := Scalar.muli v6418 c64_i32_1732
  v6419
def k0_mult173 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c64_i32_1768 : BitVec 32 := 64#32
  let v6460 : BitVec 32 := Scalar.muli v6207 c64_i32_1768
  v6460
def k0_mult174 (k0_t2 : Fin k0_t2_loop.trips) : BitVec 32 :=
  let c31_i32_1804 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let v6501 : BitVec 32 := Scalar.subi c31_i32_1804 v6207
  let c64_i32_1805 : BitVec 32 := 64#32
  let v6502 : BitVec 32 := Scalar.muli v6501 c64_i32_1805
  v6502
def k0_mult175 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c64_i32_1841 : BitVec 32 := 64#32
  let v6543 : BitVec 32 := Scalar.muli v6207 c64_i32_1841
  v6543
def k0_mult176 (k0_t2 : Fin k0_t2_loop.trips) : BitVec 32 :=
  let c31_i32_1877 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let v6584 : BitVec 32 := Scalar.subi c31_i32_1877 v6207
  let c64_i32_1878 : BitVec 32 := 64#32
  let v6585 : BitVec 32 := Scalar.muli v6584 c64_i32_1878
  v6585
def k0_mult177 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let c64_i32_1914 : BitVec 32 := 64#32
  let v6626 : BitVec 32 := Scalar.muli v6209 c64_i32_1914
  v6626
def k0_mult178 (k0_t2 : Fin k0_t2_loop.trips) : BitVec 32 :=
  let c31_i32_1934 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let v6801 : BitVec 32 := Scalar.subi c31_i32_1934 v6209
  let c64_i32_1935 : BitVec 32 := 64#32
  let v6802 : BitVec 32 := Scalar.muli v6801 c64_i32_1935
  v6802
def k0_mult179 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let c64_i32_1955 : BitVec 32 := 64#32
  let v6977 : BitVec 32 := Scalar.muli v6209 c64_i32_1955
  v6977
def k0_mult180 (k0_t2 : Fin k0_t2_loop.trips) : BitVec 32 :=
  let c31_i32_1975 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let v7152 : BitVec 32 := Scalar.subi c31_i32_1975 v6209
  let c64_i32_1976 : BitVec 32 := 64#32
  let v7153 : BitVec 32 := Scalar.muli v7152 c64_i32_1976
  v7153
def k0_mult181 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let c64_i32_1996 : BitVec 32 := 64#32
  let v7328 : BitVec 32 := Scalar.muli v6209 c64_i32_1996
  v7328
def k0_mult182 (k0_t2 : Fin k0_t2_loop.trips) : BitVec 32 :=
  let c31_i32_2016 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let v7503 : BitVec 32 := Scalar.subi c31_i32_2016 v6209
  let c64_i32_2017 : BitVec 32 := 64#32
  let v7504 : BitVec 32 := Scalar.muli v7503 c64_i32_2017
  v7504
def k0_mult183 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let c64_i32_2037 : BitVec 32 := 64#32
  let v7679 : BitVec 32 := Scalar.muli v6209 c64_i32_2037
  v7679
def k0_mult184 (k0_t2 : Fin k0_t2_loop.trips) : BitVec 32 :=
  let c31_i32_2057 : BitVec 32 := 31#32
  let c4_i32_497 : BitVec 32 := 4#32
  let c1_i32_499 : BitVec 32 := 1#32
  let arg20 : BitVec 32 := Scf.iv c4_i32_497 c1_i32_499 k0_t2
  let c4_i32_1595 : BitVec 32 := 4#32
  let v6206 : BitVec 32 := Scalar.muli arg20 c4_i32_1595
  let c2_i32 : BitVec 32 := 2#32
  let v6207 : BitVec 32 := Scalar.addi v6206 c2_i32
  let c1_i32_1596 : BitVec 32 := 1#32
  let v6208 : BitVec 32 := Scalar.addi v6207 c1_i32_1596
  let c31_i32_1597 : BitVec 32 := 31#32
  let v6209 : BitVec 32 := Scalar.minsi v6208 c31_i32_1597
  let v7854 : BitVec 32 := Scalar.subi c31_i32_2057 v6209
  let c64_i32_2058 : BitVec 32 := 64#32
  let v7855 : BitVec 32 := Scalar.muli v7854 c64_i32_2058
  v7855
def k0_mult185 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let c64_i32_2145 : BitVec 32 := 64#32
  let v8154 : BitVec 32 := Scalar.muli v8153 c64_i32_2145
  v8154
def k0_mult186 (k0_t2 : Fin k0_t2_loop.trips) : BitVec 32 :=
  let c31_i32_2147 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let v8158 : BitVec 32 := Scalar.subi c31_i32_2147 v8153
  let c64_i32_2148 : BitVec 32 := 64#32
  let v8159 : BitVec 32 := Scalar.muli v8158 c64_i32_2148
  v8159
def k0_mult187 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let c64_i32_2151 : BitVec 32 := 64#32
  let v8175 : BitVec 32 := Scalar.muli v8153 c64_i32_2151
  v8175
def k0_mult188 (k0_t2 : Fin k0_t2_loop.trips) : BitVec 32 :=
  let c31_i32_2153 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let v8179 : BitVec 32 := Scalar.subi c31_i32_2153 v8153
  let c64_i32_2154 : BitVec 32 := 64#32
  let v8180 : BitVec 32 := Scalar.muli v8179 c64_i32_2154
  v8180
def k0_mult189 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let c64_i32_2157 : BitVec 32 := 64#32
  let v8196 : BitVec 32 := Scalar.muli v8153 c64_i32_2157
  v8196
def k0_mult190 (k0_t2 : Fin k0_t2_loop.trips) : BitVec 32 :=
  let c31_i32_2159 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let v8200 : BitVec 32 := Scalar.subi c31_i32_2159 v8153
  let c64_i32_2160 : BitVec 32 := 64#32
  let v8201 : BitVec 32 := Scalar.muli v8200 c64_i32_2160
  v8201
def k0_mult191 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let c64_i32_2163 : BitVec 32 := 64#32
  let v8217 : BitVec 32 := Scalar.muli v8153 c64_i32_2163
  v8217
def k0_mult192 (k0_t2 : Fin k0_t2_loop.trips) : BitVec 32 :=
  let c31_i32_2165 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let v8221 : BitVec 32 := Scalar.subi c31_i32_2165 v8153
  let c64_i32_2166 : BitVec 32 := 64#32
  let v8222 : BitVec 32 := Scalar.muli v8221 c64_i32_2166
  v8222
def k0_mult193 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c64_i32_2169 : BitVec 32 := 64#32
  let v8238 : BitVec 32 := Scalar.muli v8151 c64_i32_2169
  v8238
def k0_mult194 (k0_t2 : Fin k0_t2_loop.trips) : BitVec 32 :=
  let c31_i32_2205 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let v8279 : BitVec 32 := Scalar.subi c31_i32_2205 v8151
  let c64_i32_2206 : BitVec 32 := 64#32
  let v8280 : BitVec 32 := Scalar.muli v8279 c64_i32_2206
  v8280
def k0_mult195 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c64_i32_2242 : BitVec 32 := 64#32
  let v8321 : BitVec 32 := Scalar.muli v8151 c64_i32_2242
  v8321
def k0_mult196 (k0_t2 : Fin k0_t2_loop.trips) : BitVec 32 :=
  let c31_i32_2278 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let v8362 : BitVec 32 := Scalar.subi c31_i32_2278 v8151
  let c64_i32_2279 : BitVec 32 := 64#32
  let v8363 : BitVec 32 := Scalar.muli v8362 c64_i32_2279
  v8363
def k0_mult197 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c64_i32_2315 : BitVec 32 := 64#32
  let v8404 : BitVec 32 := Scalar.muli v8151 c64_i32_2315
  v8404
def k0_mult198 (k0_t2 : Fin k0_t2_loop.trips) : BitVec 32 :=
  let c31_i32_2351 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let v8445 : BitVec 32 := Scalar.subi c31_i32_2351 v8151
  let c64_i32_2352 : BitVec 32 := 64#32
  let v8446 : BitVec 32 := Scalar.muli v8445 c64_i32_2352
  v8446
def k0_mult199 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c64_i32_2388 : BitVec 32 := 64#32
  let v8487 : BitVec 32 := Scalar.muli v8151 c64_i32_2388
  v8487
def k0_mult200 (k0_t2 : Fin k0_t2_loop.trips) : BitVec 32 :=
  let c31_i32_2424 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let v8528 : BitVec 32 := Scalar.subi c31_i32_2424 v8151
  let c64_i32_2425 : BitVec 32 := 64#32
  let v8529 : BitVec 32 := Scalar.muli v8528 c64_i32_2425
  v8529
def k0_mult201 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let c64_i32_2461 : BitVec 32 := 64#32
  let v8570 : BitVec 32 := Scalar.muli v8153 c64_i32_2461
  v8570
def k0_mult202 (k0_t2 : Fin k0_t2_loop.trips) : BitVec 32 :=
  let c31_i32_2481 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let v8745 : BitVec 32 := Scalar.subi c31_i32_2481 v8153
  let c64_i32_2482 : BitVec 32 := 64#32
  let v8746 : BitVec 32 := Scalar.muli v8745 c64_i32_2482
  v8746
def k0_mult203 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let c64_i32_2502 : BitVec 32 := 64#32
  let v8921 : BitVec 32 := Scalar.muli v8153 c64_i32_2502
  v8921
def k0_mult204 (k0_t2 : Fin k0_t2_loop.trips) : BitVec 32 :=
  let c31_i32_2522 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let v9096 : BitVec 32 := Scalar.subi c31_i32_2522 v8153
  let c64_i32_2523 : BitVec 32 := 64#32
  let v9097 : BitVec 32 := Scalar.muli v9096 c64_i32_2523
  v9097
def k0_mult205 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let c64_i32_2543 : BitVec 32 := 64#32
  let v9272 : BitVec 32 := Scalar.muli v8153 c64_i32_2543
  v9272
def k0_mult206 (k0_t2 : Fin k0_t2_loop.trips) : BitVec 32 :=
  let c31_i32_2563 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let v9447 : BitVec 32 := Scalar.subi c31_i32_2563 v8153
  let c64_i32_2564 : BitVec 32 := 64#32
  let v9448 : BitVec 32 := Scalar.muli v9447 c64_i32_2564
  v9448
def k0_mult207 (k0_t2 : Fin k0_t2_loop.trips) : BitVec 32 :=
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let c64_i32_2584 : BitVec 32 := 64#32
  let v9623 : BitVec 32 := Scalar.muli v8153 c64_i32_2584
  v9623
def k0_mult208 (k0_t2 : Fin k0_t2_loop.trips) : BitVec 32 :=
  let c31_i32_2604 : BitVec 32 := 31#32
  let c4_i32_497 : BitVec 32 := 4#32
  let c1_i32_499 : BitVec 32 := 1#32
  let arg20 : BitVec 32 := Scf.iv c4_i32_497 c1_i32_499 k0_t2
  let c4_i32_2142 : BitVec 32 := 4#32
  let v8150 : BitVec 32 := Scalar.muli arg20 c4_i32_2142
  let c3_i32 : BitVec 32 := 3#32
  let v8151 : BitVec 32 := Scalar.addi v8150 c3_i32
  let c1_i32_2143 : BitVec 32 := 1#32
  let v8152 : BitVec 32 := Scalar.addi v8151 c1_i32_2143
  let c31_i32_2144 : BitVec 32 := 31#32
  let v8153 : BitVec 32 := Scalar.minsi v8152 c31_i32_2144
  let v9798 : BitVec 32 := Scalar.subi c31_i32_2604 v8153
  let c64_i32_2605 : BitVec 32 := 64#32
  let v9799 : BitVec 32 := Scalar.muli v9798 c64_i32_2605
  v9799
def k0_mult209 : BitVec 32 :=
  let c0_i32_315 : BitVec 32 := 0#32
  c0_i32_315
def k0_mult210 : BitVec 32 :=
  let c1984_i32 : BitVec 32 := 1984#32
  c1984_i32
def k0_mult211 : BitVec 32 :=
  let c0_i32_319 : BitVec 32 := 0#32
  c0_i32_319
def k0_mult212 : BitVec 32 :=
  let c1984_i32_321 : BitVec 32 := 1984#32
  c1984_i32_321
def k0_mult213 : BitVec 32 :=
  let c0_i32_324 : BitVec 32 := 0#32
  c0_i32_324
def k0_mult214 : BitVec 32 :=
  let c1984_i32_326 : BitVec 32 := 1984#32
  c1984_i32_326
def k0_mult215 : BitVec 32 :=
  let c0_i32_329 : BitVec 32 := 0#32
  c0_i32_329
def k0_mult216 : BitVec 32 :=
  let c1984_i32_331 : BitVec 32 := 1984#32
  c1984_i32_331
def k0_mult217 : BitVec 32 :=
  let c0_i32_334 : BitVec 32 := 0#32
  c0_i32_334
def k0_mult218 : BitVec 32 :=
  let c1984_i32_390 : BitVec 32 := 1984#32
  c1984_i32_390
def k0_mult219 : BitVec 32 :=
  let c0_i32_446 : BitVec 32 := 0#32
  c0_i32_446
def k0_mult220 : BitVec 32 :=
  let c1984_i32_502 : BitVec 32 := 1984#32
  c1984_i32_502
def k0_mult221 : BitVec 32 :=
  let c0_i32_558 : BitVec 32 := 0#32
  c0_i32_558
def k0_mult222 : BitVec 32 :=
  let c1984_i32_614 : BitVec 32 := 1984#32
  c1984_i32_614
def k0_mult223 : BitVec 32 :=
  let c0_i32_670 : BitVec 32 := 0#32
  c0_i32_670
def k0_mult224 : BitVec 32 :=
  let c1984_i32_726 : BitVec 32 := 1984#32
  c1984_i32_726
@[reducible] def k0_t3_loop : Scf.Loop 32 :=
  let c0_i32_782 : BitVec 32 := 0#32
  let c8_i32 : BitVec 32 := 8#32
  let v4380 : BitVec 32 := Scalar.addi c0_i32_782 c8_i32
  let c1_i32_783 : BitVec 32 := 1#32
  ⟨c0_i32_782, v4380, c1_i32_783⟩
def k0_mult225 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32 : BitVec 32 := 64#32
  let v4386 : BitVec 32 := Scalar.muli v4385 c64_i32
  v4386
def k0_off33 (k0_t3 : Fin k0_t3_loop.trips) (c0_i32_789 : BitVec 32) : Fin 2 → Nat :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32 : BitVec 32 := 64#32
  let v4386 : BitVec 32 := Scalar.muli v4385 c64_i32
  let v4387 : BitVec 32 := v4386
  let v4388 : Index := Scalar.indexCast v4387
  let c0_791 : Index := 0#32
  ![v4388.toNat, 0]
def k0_mult226 (k0_t3 : Fin k0_t3_loop.trips) : BitVec 32 :=
  let c31_i32_792 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4390 : BitVec 32 := Scalar.subi c31_i32_792 v4385
  let c64_i32_793 : BitVec 32 := 64#32
  let v4391 : BitVec 32 := Scalar.muli v4390 c64_i32_793
  v4391
def k0_off34 (k0_t3 : Fin k0_t3_loop.trips) (c0_i32_789 : BitVec 32) : Fin 2 → Nat :=
  let c31_i32_792 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4390 : BitVec 32 := Scalar.subi c31_i32_792 v4385
  let c64_i32_793 : BitVec 32 := 64#32
  let v4391 : BitVec 32 := Scalar.muli v4390 c64_i32_793
  let v4392 : BitVec 32 := v4391
  let v4393 : Index := Scalar.indexCast v4392
  let c0_794 : Index := 0#32
  ![v4393.toNat, 0]
def k0_mult227 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_796 : BitVec 32 := 64#32
  let v4407 : BitVec 32 := Scalar.muli v4385 c64_i32_796
  v4407
def k0_off35 (k0_t3 : Fin k0_t3_loop.trips) (c0_i32_789 : BitVec 32) : Fin 2 → Nat :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_796 : BitVec 32 := 64#32
  let v4407 : BitVec 32 := Scalar.muli v4385 c64_i32_796
  let v4408 : BitVec 32 := v4407
  let v4409 : Index := Scalar.indexCast v4408
  let c128_797 : Index := 128#32
  ![v4409.toNat, 128]
def k0_mult228 (k0_t3 : Fin k0_t3_loop.trips) : BitVec 32 :=
  let c31_i32_798 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4411 : BitVec 32 := Scalar.subi c31_i32_798 v4385
  let c64_i32_799 : BitVec 32 := 64#32
  let v4412 : BitVec 32 := Scalar.muli v4411 c64_i32_799
  v4412
def k0_off36 (k0_t3 : Fin k0_t3_loop.trips) (c0_i32_789 : BitVec 32) : Fin 2 → Nat :=
  let c31_i32_798 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4411 : BitVec 32 := Scalar.subi c31_i32_798 v4385
  let c64_i32_799 : BitVec 32 := 64#32
  let v4412 : BitVec 32 := Scalar.muli v4411 c64_i32_799
  let v4413 : BitVec 32 := v4412
  let v4414 : Index := Scalar.indexCast v4413
  let c128_800 : Index := 128#32
  ![v4414.toNat, 128]
def k0_mult229 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_802 : BitVec 32 := 64#32
  let v4428 : BitVec 32 := Scalar.muli v4385 c64_i32_802
  v4428
def k0_off37 (k0_t3 : Fin k0_t3_loop.trips) (c0_i32_789 : BitVec 32) : Fin 2 → Nat :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_802 : BitVec 32 := 64#32
  let v4428 : BitVec 32 := Scalar.muli v4385 c64_i32_802
  let v4429 : BitVec 32 := v4428
  let v4430 : Index := Scalar.indexCast v4429
  let c256_803 : Index := 256#32
  ![v4430.toNat, 256]
def k0_mult230 (k0_t3 : Fin k0_t3_loop.trips) : BitVec 32 :=
  let c31_i32_804 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4432 : BitVec 32 := Scalar.subi c31_i32_804 v4385
  let c64_i32_805 : BitVec 32 := 64#32
  let v4433 : BitVec 32 := Scalar.muli v4432 c64_i32_805
  v4433
def k0_off38 (k0_t3 : Fin k0_t3_loop.trips) (c0_i32_789 : BitVec 32) : Fin 2 → Nat :=
  let c31_i32_804 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4432 : BitVec 32 := Scalar.subi c31_i32_804 v4385
  let c64_i32_805 : BitVec 32 := 64#32
  let v4433 : BitVec 32 := Scalar.muli v4432 c64_i32_805
  let v4434 : BitVec 32 := v4433
  let v4435 : Index := Scalar.indexCast v4434
  let c256_806 : Index := 256#32
  ![v4435.toNat, 256]
def k0_mult231 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_808 : BitVec 32 := 64#32
  let v4449 : BitVec 32 := Scalar.muli v4385 c64_i32_808
  v4449
def k0_off39 (k0_t3 : Fin k0_t3_loop.trips) (c0_i32_789 : BitVec 32) : Fin 2 → Nat :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_808 : BitVec 32 := 64#32
  let v4449 : BitVec 32 := Scalar.muli v4385 c64_i32_808
  let v4450 : BitVec 32 := v4449
  let v4451 : Index := Scalar.indexCast v4450
  let c384_809 : Index := 384#32
  ![v4451.toNat, 384]
def k0_mult232 (k0_t3 : Fin k0_t3_loop.trips) : BitVec 32 :=
  let c31_i32_810 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4453 : BitVec 32 := Scalar.subi c31_i32_810 v4385
  let c64_i32_811 : BitVec 32 := 64#32
  let v4454 : BitVec 32 := Scalar.muli v4453 c64_i32_811
  v4454
def k0_off40 (k0_t3 : Fin k0_t3_loop.trips) (c0_i32_789 : BitVec 32) : Fin 2 → Nat :=
  let c31_i32_810 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4453 : BitVec 32 := Scalar.subi c31_i32_810 v4385
  let c64_i32_811 : BitVec 32 := 64#32
  let v4454 : BitVec 32 := Scalar.muli v4453 c64_i32_811
  let v4455 : BitVec 32 := v4454
  let v4456 : Index := Scalar.indexCast v4455
  let c384_812 : Index := 384#32
  ![v4456.toNat, 384]
def k0_mult233 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c64_i32_821 : BitVec 32 := 64#32
  let v4475 : BitVec 32 := Scalar.muli v4383 c64_i32_821
  v4475
def k0_off41 (k0_t3 : Fin k0_t3_loop.trips) (c0_i32_789 : BitVec 32) : Fin 2 → Nat :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c64_i32_821 : BitVec 32 := 64#32
  let v4475 : BitVec 32 := Scalar.muli v4383 c64_i32_821
  let v4476 : BitVec 32 := v4475
  let v4477 : Index := Scalar.indexCast v4476
  let c0_822 : Index := 0#32
  ![v4477.toNat, 0]
def k0_mult234 (k0_t3 : Fin k0_t3_loop.trips) : BitVec 32 :=
  let c31_i32_846 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let v4512 : BitVec 32 := Scalar.subi c31_i32_846 v4383
  let c64_i32_847 : BitVec 32 := 64#32
  let v4513 : BitVec 32 := Scalar.muli v4512 c64_i32_847
  v4513
def k0_off42 (k0_t3 : Fin k0_t3_loop.trips) (c0_i32_789 : BitVec 32) : Fin 2 → Nat :=
  let c31_i32_846 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let v4512 : BitVec 32 := Scalar.subi c31_i32_846 v4383
  let c64_i32_847 : BitVec 32 := 64#32
  let v4513 : BitVec 32 := Scalar.muli v4512 c64_i32_847
  let v4514 : BitVec 32 := v4513
  let v4515 : Index := Scalar.indexCast v4514
  let c0_848 : Index := 0#32
  ![v4515.toNat, 0]
def k0_mult235 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c64_i32_879 : BitVec 32 := 64#32
  let v4555 : BitVec 32 := Scalar.muli v4383 c64_i32_879
  v4555
def k0_off43 (k0_t3 : Fin k0_t3_loop.trips) (c0_i32_789 : BitVec 32) : Fin 2 → Nat :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c64_i32_879 : BitVec 32 := 64#32
  let v4555 : BitVec 32 := Scalar.muli v4383 c64_i32_879
  let v4556 : BitVec 32 := v4555
  let v4557 : Index := Scalar.indexCast v4556
  let c128_880 : Index := 128#32
  ![v4557.toNat, 128]
def k0_mult236 (k0_t3 : Fin k0_t3_loop.trips) : BitVec 32 :=
  let c31_i32_904 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let v4592 : BitVec 32 := Scalar.subi c31_i32_904 v4383
  let c64_i32_905 : BitVec 32 := 64#32
  let v4593 : BitVec 32 := Scalar.muli v4592 c64_i32_905
  v4593
def k0_off44 (k0_t3 : Fin k0_t3_loop.trips) (c0_i32_789 : BitVec 32) : Fin 2 → Nat :=
  let c31_i32_904 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let v4592 : BitVec 32 := Scalar.subi c31_i32_904 v4383
  let c64_i32_905 : BitVec 32 := 64#32
  let v4593 : BitVec 32 := Scalar.muli v4592 c64_i32_905
  let v4594 : BitVec 32 := v4593
  let v4595 : Index := Scalar.indexCast v4594
  let c128_906 : Index := 128#32
  ![v4595.toNat, 128]
def k0_mult237 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c64_i32_937 : BitVec 32 := 64#32
  let v4635 : BitVec 32 := Scalar.muli v4383 c64_i32_937
  v4635
def k0_off45 (k0_t3 : Fin k0_t3_loop.trips) (c0_i32_789 : BitVec 32) : Fin 2 → Nat :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c64_i32_937 : BitVec 32 := 64#32
  let v4635 : BitVec 32 := Scalar.muli v4383 c64_i32_937
  let v4636 : BitVec 32 := v4635
  let v4637 : Index := Scalar.indexCast v4636
  let c256_938 : Index := 256#32
  ![v4637.toNat, 256]
def k0_mult238 (k0_t3 : Fin k0_t3_loop.trips) : BitVec 32 :=
  let c31_i32_962 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let v4672 : BitVec 32 := Scalar.subi c31_i32_962 v4383
  let c64_i32_963 : BitVec 32 := 64#32
  let v4673 : BitVec 32 := Scalar.muli v4672 c64_i32_963
  v4673
def k0_off46 (k0_t3 : Fin k0_t3_loop.trips) (c0_i32_789 : BitVec 32) : Fin 2 → Nat :=
  let c31_i32_962 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let v4672 : BitVec 32 := Scalar.subi c31_i32_962 v4383
  let c64_i32_963 : BitVec 32 := 64#32
  let v4673 : BitVec 32 := Scalar.muli v4672 c64_i32_963
  let v4674 : BitVec 32 := v4673
  let v4675 : Index := Scalar.indexCast v4674
  let c256_964 : Index := 256#32
  ![v4675.toNat, 256]
def k0_mult239 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c64_i32_995 : BitVec 32 := 64#32
  let v4715 : BitVec 32 := Scalar.muli v4383 c64_i32_995
  v4715
def k0_off47 (k0_t3 : Fin k0_t3_loop.trips) (c0_i32_789 : BitVec 32) : Fin 2 → Nat :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let c64_i32_995 : BitVec 32 := 64#32
  let v4715 : BitVec 32 := Scalar.muli v4383 c64_i32_995
  let v4716 : BitVec 32 := v4715
  let v4717 : Index := Scalar.indexCast v4716
  let c384_996 : Index := 384#32
  ![v4717.toNat, 384]
def k0_mult240 (k0_t3 : Fin k0_t3_loop.trips) : BitVec 32 :=
  let c31_i32_1020 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let v4752 : BitVec 32 := Scalar.subi c31_i32_1020 v4383
  let c64_i32_1021 : BitVec 32 := 64#32
  let v4753 : BitVec 32 := Scalar.muli v4752 c64_i32_1021
  v4753
def k0_off48 (k0_t3 : Fin k0_t3_loop.trips) (c0_i32_789 : BitVec 32) : Fin 2 → Nat :=
  let c31_i32_1020 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let v4383 : BitVec 32 := Scalar.addi v4382 c0_i32_789
  let v4752 : BitVec 32 := Scalar.subi c31_i32_1020 v4383
  let c64_i32_1021 : BitVec 32 := 64#32
  let v4753 : BitVec 32 := Scalar.muli v4752 c64_i32_1021
  let v4754 : BitVec 32 := v4753
  let v4755 : Index := Scalar.indexCast v4754
  let c384_1022 : Index := 384#32
  ![v4755.toNat, 384]
def k0_mult241 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_1046 : BitVec 32 := 64#32
  let v4790 : BitVec 32 := Scalar.muli v4385 c64_i32_1046
  v4790
def k0_mult242 (k0_t3 : Fin k0_t3_loop.trips) : BitVec 32 :=
  let c31_i32_1102 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v5223 : BitVec 32 := Scalar.subi c31_i32_1102 v4385
  let c64_i32_1103 : BitVec 32 := 64#32
  let v5224 : BitVec 32 := Scalar.muli v5223 c64_i32_1103
  v5224
def k0_mult243 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_1159 : BitVec 32 := 64#32
  let v5657 : BitVec 32 := Scalar.muli v4385 c64_i32_1159
  v5657
def k0_mult244 (k0_t3 : Fin k0_t3_loop.trips) : BitVec 32 :=
  let c31_i32_1215 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v6090 : BitVec 32 := Scalar.subi c31_i32_1215 v4385
  let c64_i32_1216 : BitVec 32 := 64#32
  let v6091 : BitVec 32 := Scalar.muli v6090 c64_i32_1216
  v6091
def k0_mult245 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_1272 : BitVec 32 := 64#32
  let v6524 : BitVec 32 := Scalar.muli v4385 c64_i32_1272
  v6524
def k0_mult246 (k0_t3 : Fin k0_t3_loop.trips) : BitVec 32 :=
  let c31_i32_1328 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v6957 : BitVec 32 := Scalar.subi c31_i32_1328 v4385
  let c64_i32_1329 : BitVec 32 := 64#32
  let v6958 : BitVec 32 := Scalar.muli v6957 c64_i32_1329
  v6958
def k0_mult247 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_1385 : BitVec 32 := 64#32
  let v7391 : BitVec 32 := Scalar.muli v4385 c64_i32_1385
  v7391
def k0_mult248 (k0_t3 : Fin k0_t3_loop.trips) : BitVec 32 :=
  let c31_i32_1441 : BitVec 32 := 31#32
  let c0_i32_782 : BitVec 32 := 0#32
  let c1_i32_783 : BitVec 32 := 1#32
  let arg20 : BitVec 32 := Scf.iv c0_i32_782 c1_i32_783 k0_t3
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v7824 : BitVec 32 := Scalar.subi c31_i32_1441 v4385
  let c64_i32_1442 : BitVec 32 := 64#32
  let v7825 : BitVec 32 := Scalar.muli v7824 c64_i32_1442
  v7825
def k0_mult249 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let c64_i32_1558 : BitVec 32 := 64#32
  let v8350 : BitVec 32 := Scalar.muli v8349 c64_i32_1558
  v8350
def k0_mult250 (k0_t3 : Fin k0_t3_loop.trips) : BitVec 32 :=
  let c31_i32_1560 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let v8354 : BitVec 32 := Scalar.subi c31_i32_1560 v8349
  let c64_i32_1561 : BitVec 32 := 64#32
  let v8355 : BitVec 32 := Scalar.muli v8354 c64_i32_1561
  v8355
def k0_mult251 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let c64_i32_1564 : BitVec 32 := 64#32
  let v8371 : BitVec 32 := Scalar.muli v8349 c64_i32_1564
  v8371
def k0_mult252 (k0_t3 : Fin k0_t3_loop.trips) : BitVec 32 :=
  let c31_i32_1566 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let v8375 : BitVec 32 := Scalar.subi c31_i32_1566 v8349
  let c64_i32_1567 : BitVec 32 := 64#32
  let v8376 : BitVec 32 := Scalar.muli v8375 c64_i32_1567
  v8376
def k0_mult253 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let c64_i32_1570 : BitVec 32 := 64#32
  let v8392 : BitVec 32 := Scalar.muli v8349 c64_i32_1570
  v8392
def k0_mult254 (k0_t3 : Fin k0_t3_loop.trips) : BitVec 32 :=
  let c31_i32_1572 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let v8396 : BitVec 32 := Scalar.subi c31_i32_1572 v8349
  let c64_i32_1573 : BitVec 32 := 64#32
  let v8397 : BitVec 32 := Scalar.muli v8396 c64_i32_1573
  v8397
def k0_mult255 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let c64_i32_1576 : BitVec 32 := 64#32
  let v8413 : BitVec 32 := Scalar.muli v8349 c64_i32_1576
  v8413
def k0_mult256 (k0_t3 : Fin k0_t3_loop.trips) : BitVec 32 :=
  let c31_i32_1578 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let v8417 : BitVec 32 := Scalar.subi c31_i32_1578 v8349
  let c64_i32_1579 : BitVec 32 := 64#32
  let v8418 : BitVec 32 := Scalar.muli v8417 c64_i32_1579
  v8418
def k0_mult257 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c64_i32_1589 : BitVec 32 := 64#32
  let v8439 : BitVec 32 := Scalar.muli v8347 c64_i32_1589
  v8439
def k0_mult258 (k0_t3 : Fin k0_t3_loop.trips) : BitVec 32 :=
  let c31_i32_1614 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let v8476 : BitVec 32 := Scalar.subi c31_i32_1614 v8347
  let c64_i32_1615 : BitVec 32 := 64#32
  let v8477 : BitVec 32 := Scalar.muli v8476 c64_i32_1615
  v8477
def k0_mult259 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c64_i32_1647 : BitVec 32 := 64#32
  let v8519 : BitVec 32 := Scalar.muli v8347 c64_i32_1647
  v8519
def k0_mult260 (k0_t3 : Fin k0_t3_loop.trips) : BitVec 32 :=
  let c31_i32_1672 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let v8556 : BitVec 32 := Scalar.subi c31_i32_1672 v8347
  let c64_i32_1673 : BitVec 32 := 64#32
  let v8557 : BitVec 32 := Scalar.muli v8556 c64_i32_1673
  v8557
def k0_mult261 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c64_i32_1705 : BitVec 32 := 64#32
  let v8599 : BitVec 32 := Scalar.muli v8347 c64_i32_1705
  v8599
def k0_mult262 (k0_t3 : Fin k0_t3_loop.trips) : BitVec 32 :=
  let c31_i32_1730 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let v8636 : BitVec 32 := Scalar.subi c31_i32_1730 v8347
  let c64_i32_1731 : BitVec 32 := 64#32
  let v8637 : BitVec 32 := Scalar.muli v8636 c64_i32_1731
  v8637
def k0_mult263 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c64_i32_1763 : BitVec 32 := 64#32
  let v8679 : BitVec 32 := Scalar.muli v8347 c64_i32_1763
  v8679
def k0_mult264 (k0_t3 : Fin k0_t3_loop.trips) : BitVec 32 :=
  let c31_i32_1788 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let v8716 : BitVec 32 := Scalar.subi c31_i32_1788 v8347
  let c64_i32_1789 : BitVec 32 := 64#32
  let v8717 : BitVec 32 := Scalar.muli v8716 c64_i32_1789
  v8717
def k0_mult265 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let c64_i32_1814 : BitVec 32 := 64#32
  let v8754 : BitVec 32 := Scalar.muli v8349 c64_i32_1814
  v8754
def k0_mult266 (k0_t3 : Fin k0_t3_loop.trips) : BitVec 32 :=
  let c31_i32_1870 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let v9187 : BitVec 32 := Scalar.subi c31_i32_1870 v8349
  let c64_i32_1871 : BitVec 32 := 64#32
  let v9188 : BitVec 32 := Scalar.muli v9187 c64_i32_1871
  v9188
def k0_mult267 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let c64_i32_1927 : BitVec 32 := 64#32
  let v9621 : BitVec 32 := Scalar.muli v8349 c64_i32_1927
  v9621
def k0_mult268 (k0_t3 : Fin k0_t3_loop.trips) : BitVec 32 :=
  let c31_i32_1983 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let v10054 : BitVec 32 := Scalar.subi c31_i32_1983 v8349
  let c64_i32_1984 : BitVec 32 := 64#32
  let v10055 : BitVec 32 := Scalar.muli v10054 c64_i32_1984
  v10055
def k0_mult269 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let c64_i32_2040 : BitVec 32 := 64#32
  let v10488 : BitVec 32 := Scalar.muli v8349 c64_i32_2040
  v10488
def k0_mult270 (k0_t3 : Fin k0_t3_loop.trips) : BitVec 32 :=
  let c31_i32_2096 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let v10921 : BitVec 32 := Scalar.subi c31_i32_2096 v8349
  let c64_i32_2097 : BitVec 32 := 64#32
  let v10922 : BitVec 32 := Scalar.muli v10921 c64_i32_2097
  v10922
def k0_mult271 (k0_t3 : Fin k0_t3_loop.trips) : BitVec 32 :=
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let c64_i32_2153 : BitVec 32 := 64#32
  let v11355 : BitVec 32 := Scalar.muli v8349 c64_i32_2153
  v11355
def k0_mult272 (k0_t3 : Fin k0_t3_loop.trips) : BitVec 32 :=
  let c31_i32_2209 : BitVec 32 := 31#32
  let c0_i32_782 : BitVec 32 := 0#32
  let c1_i32_783 : BitVec 32 := 1#32
  let arg20 : BitVec 32 := Scf.iv c0_i32_782 c1_i32_783 k0_t3
  let c2_i32_1554 : BitVec 32 := 2#32
  let v8346 : BitVec 32 := Scalar.muli arg20 c2_i32_1554
  let c1_i32_1555 : BitVec 32 := 1#32
  let v8347 : BitVec 32 := Scalar.addi v8346 c1_i32_1555
  let c1_i32_1556 : BitVec 32 := 1#32
  let v8348 : BitVec 32 := Scalar.addi v8347 c1_i32_1556
  let c31_i32_1557 : BitVec 32 := 31#32
  let v8349 : BitVec 32 := Scalar.minsi v8348 c31_i32_1557
  let v11788 : BitVec 32 := Scalar.subi c31_i32_2209 v8349
  let c64_i32_2210 : BitVec 32 := 64#32
  let v11789 : BitVec 32 := Scalar.muli v11788 c64_i32_2210
  v11789
@[reducible] def k0_t4_loop : Scf.Loop 32 :=
  let c8_i32_785 : BitVec 32 := 8#32
  let c8_i32_786 : BitVec 32 := 8#32
  let v4381 : BitVec 32 := Scalar.addi c8_i32_785 c8_i32_786
  let c1_i32_787 : BitVec 32 := 1#32
  ⟨c8_i32_785, v4381, c1_i32_787⟩
def k0_mult273 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32 : BitVec 32 := 64#32
  let v4386 : BitVec 32 := Scalar.muli v4385 c64_i32
  v4386
def k0_off49 (k0_t4 : Fin k0_t4_loop.trips) (c0_i32_789 : BitVec 32) : Fin 2 → Nat :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32 : BitVec 32 := 64#32
  let v4386 : BitVec 32 := Scalar.muli v4385 c64_i32
  let v4387 : BitVec 32 := v4386
  let v4388 : Index := Scalar.indexCast v4387
  let c0_791 : Index := 0#32
  ![v4388.toNat, 0]
def k0_mult274 (k0_t4 : Fin k0_t4_loop.trips) : BitVec 32 :=
  let c31_i32_792 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4390 : BitVec 32 := Scalar.subi c31_i32_792 v4385
  let c64_i32_793 : BitVec 32 := 64#32
  let v4391 : BitVec 32 := Scalar.muli v4390 c64_i32_793
  v4391
def k0_off50 (k0_t4 : Fin k0_t4_loop.trips) (c0_i32_789 : BitVec 32) : Fin 2 → Nat :=
  let c31_i32_792 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4390 : BitVec 32 := Scalar.subi c31_i32_792 v4385
  let c64_i32_793 : BitVec 32 := 64#32
  let v4391 : BitVec 32 := Scalar.muli v4390 c64_i32_793
  let v4392 : BitVec 32 := v4391
  let v4393 : Index := Scalar.indexCast v4392
  let c0_794 : Index := 0#32
  ![v4393.toNat, 0]
def k0_mult275 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_796 : BitVec 32 := 64#32
  let v4407 : BitVec 32 := Scalar.muli v4385 c64_i32_796
  v4407
def k0_off51 (k0_t4 : Fin k0_t4_loop.trips) (c0_i32_789 : BitVec 32) : Fin 2 → Nat :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_796 : BitVec 32 := 64#32
  let v4407 : BitVec 32 := Scalar.muli v4385 c64_i32_796
  let v4408 : BitVec 32 := v4407
  let v4409 : Index := Scalar.indexCast v4408
  let c128_797 : Index := 128#32
  ![v4409.toNat, 128]
def k0_mult276 (k0_t4 : Fin k0_t4_loop.trips) : BitVec 32 :=
  let c31_i32_798 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4411 : BitVec 32 := Scalar.subi c31_i32_798 v4385
  let c64_i32_799 : BitVec 32 := 64#32
  let v4412 : BitVec 32 := Scalar.muli v4411 c64_i32_799
  v4412
def k0_off52 (k0_t4 : Fin k0_t4_loop.trips) (c0_i32_789 : BitVec 32) : Fin 2 → Nat :=
  let c31_i32_798 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4411 : BitVec 32 := Scalar.subi c31_i32_798 v4385
  let c64_i32_799 : BitVec 32 := 64#32
  let v4412 : BitVec 32 := Scalar.muli v4411 c64_i32_799
  let v4413 : BitVec 32 := v4412
  let v4414 : Index := Scalar.indexCast v4413
  let c128_800 : Index := 128#32
  ![v4414.toNat, 128]
def k0_mult277 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_802 : BitVec 32 := 64#32
  let v4428 : BitVec 32 := Scalar.muli v4385 c64_i32_802
  v4428
def k0_off53 (k0_t4 : Fin k0_t4_loop.trips) (c0_i32_789 : BitVec 32) : Fin 2 → Nat :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_802 : BitVec 32 := 64#32
  let v4428 : BitVec 32 := Scalar.muli v4385 c64_i32_802
  let v4429 : BitVec 32 := v4428
  let v4430 : Index := Scalar.indexCast v4429
  let c256_803 : Index := 256#32
  ![v4430.toNat, 256]
def k0_mult278 (k0_t4 : Fin k0_t4_loop.trips) : BitVec 32 :=
  let c31_i32_804 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4432 : BitVec 32 := Scalar.subi c31_i32_804 v4385
  let c64_i32_805 : BitVec 32 := 64#32
  let v4433 : BitVec 32 := Scalar.muli v4432 c64_i32_805
  v4433
def k0_off54 (k0_t4 : Fin k0_t4_loop.trips) (c0_i32_789 : BitVec 32) : Fin 2 → Nat :=
  let c31_i32_804 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4432 : BitVec 32 := Scalar.subi c31_i32_804 v4385
  let c64_i32_805 : BitVec 32 := 64#32
  let v4433 : BitVec 32 := Scalar.muli v4432 c64_i32_805
  let v4434 : BitVec 32 := v4433
  let v4435 : Index := Scalar.indexCast v4434
  let c256_806 : Index := 256#32
  ![v4435.toNat, 256]
def k0_mult279 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_808 : BitVec 32 := 64#32
  let v4449 : BitVec 32 := Scalar.muli v4385 c64_i32_808
  v4449
def k0_off55 (k0_t4 : Fin k0_t4_loop.trips) (c0_i32_789 : BitVec 32) : Fin 2 → Nat :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_808 : BitVec 32 := 64#32
  let v4449 : BitVec 32 := Scalar.muli v4385 c64_i32_808
  let v4450 : BitVec 32 := v4449
  let v4451 : Index := Scalar.indexCast v4450
  let c384_809 : Index := 384#32
  ![v4451.toNat, 384]
def k0_mult280 (k0_t4 : Fin k0_t4_loop.trips) : BitVec 32 :=
  let c31_i32_810 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4453 : BitVec 32 := Scalar.subi c31_i32_810 v4385
  let c64_i32_811 : BitVec 32 := 64#32
  let v4454 : BitVec 32 := Scalar.muli v4453 c64_i32_811
  v4454
def k0_off56 (k0_t4 : Fin k0_t4_loop.trips) (c0_i32_789 : BitVec 32) : Fin 2 → Nat :=
  let c31_i32_810 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v4453 : BitVec 32 := Scalar.subi c31_i32_810 v4385
  let c64_i32_811 : BitVec 32 := 64#32
  let v4454 : BitVec 32 := Scalar.muli v4453 c64_i32_811
  let v4455 : BitVec 32 := v4454
  let v4456 : Index := Scalar.indexCast v4455
  let c384_812 : Index := 384#32
  ![v4456.toNat, 384]
def k0_mult281 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c64_i32_821 : BitVec 32 := 64#32
  let v4475 : BitVec 32 := Scalar.muli v4383 c64_i32_821
  v4475
def k0_off57 (k0_t4 : Fin k0_t4_loop.trips) (c0_i32_789 : BitVec 32) : Fin 2 → Nat :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c64_i32_821 : BitVec 32 := 64#32
  let v4475 : BitVec 32 := Scalar.muli v4383 c64_i32_821
  let v4476 : BitVec 32 := v4475
  let v4477 : Index := Scalar.indexCast v4476
  let c0_822 : Index := 0#32
  ![v4477.toNat, 0]
def k0_mult282 (k0_t4 : Fin k0_t4_loop.trips) : BitVec 32 :=
  let c31_i32_846 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let v4512 : BitVec 32 := Scalar.subi c31_i32_846 v4383
  let c64_i32_847 : BitVec 32 := 64#32
  let v4513 : BitVec 32 := Scalar.muli v4512 c64_i32_847
  v4513
def k0_off58 (k0_t4 : Fin k0_t4_loop.trips) (c0_i32_789 : BitVec 32) : Fin 2 → Nat :=
  let c31_i32_846 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let v4512 : BitVec 32 := Scalar.subi c31_i32_846 v4383
  let c64_i32_847 : BitVec 32 := 64#32
  let v4513 : BitVec 32 := Scalar.muli v4512 c64_i32_847
  let v4514 : BitVec 32 := v4513
  let v4515 : Index := Scalar.indexCast v4514
  let c0_848 : Index := 0#32
  ![v4515.toNat, 0]
def k0_mult283 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c64_i32_879 : BitVec 32 := 64#32
  let v4555 : BitVec 32 := Scalar.muli v4383 c64_i32_879
  v4555
def k0_off59 (k0_t4 : Fin k0_t4_loop.trips) (c0_i32_789 : BitVec 32) : Fin 2 → Nat :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c64_i32_879 : BitVec 32 := 64#32
  let v4555 : BitVec 32 := Scalar.muli v4383 c64_i32_879
  let v4556 : BitVec 32 := v4555
  let v4557 : Index := Scalar.indexCast v4556
  let c128_880 : Index := 128#32
  ![v4557.toNat, 128]
def k0_mult284 (k0_t4 : Fin k0_t4_loop.trips) : BitVec 32 :=
  let c31_i32_904 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let v4592 : BitVec 32 := Scalar.subi c31_i32_904 v4383
  let c64_i32_905 : BitVec 32 := 64#32
  let v4593 : BitVec 32 := Scalar.muli v4592 c64_i32_905
  v4593
def k0_off60 (k0_t4 : Fin k0_t4_loop.trips) (c0_i32_789 : BitVec 32) : Fin 2 → Nat :=
  let c31_i32_904 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let v4592 : BitVec 32 := Scalar.subi c31_i32_904 v4383
  let c64_i32_905 : BitVec 32 := 64#32
  let v4593 : BitVec 32 := Scalar.muli v4592 c64_i32_905
  let v4594 : BitVec 32 := v4593
  let v4595 : Index := Scalar.indexCast v4594
  let c128_906 : Index := 128#32
  ![v4595.toNat, 128]
def k0_mult285 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c64_i32_937 : BitVec 32 := 64#32
  let v4635 : BitVec 32 := Scalar.muli v4383 c64_i32_937
  v4635
def k0_off61 (k0_t4 : Fin k0_t4_loop.trips) (c0_i32_789 : BitVec 32) : Fin 2 → Nat :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c64_i32_937 : BitVec 32 := 64#32
  let v4635 : BitVec 32 := Scalar.muli v4383 c64_i32_937
  let v4636 : BitVec 32 := v4635
  let v4637 : Index := Scalar.indexCast v4636
  let c256_938 : Index := 256#32
  ![v4637.toNat, 256]
def k0_mult286 (k0_t4 : Fin k0_t4_loop.trips) : BitVec 32 :=
  let c31_i32_962 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let v4672 : BitVec 32 := Scalar.subi c31_i32_962 v4383
  let c64_i32_963 : BitVec 32 := 64#32
  let v4673 : BitVec 32 := Scalar.muli v4672 c64_i32_963
  v4673
def k0_off62 (k0_t4 : Fin k0_t4_loop.trips) (c0_i32_789 : BitVec 32) : Fin 2 → Nat :=
  let c31_i32_962 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let v4672 : BitVec 32 := Scalar.subi c31_i32_962 v4383
  let c64_i32_963 : BitVec 32 := 64#32
  let v4673 : BitVec 32 := Scalar.muli v4672 c64_i32_963
  let v4674 : BitVec 32 := v4673
  let v4675 : Index := Scalar.indexCast v4674
  let c256_964 : Index := 256#32
  ![v4675.toNat, 256]
def k0_mult287 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c64_i32_995 : BitVec 32 := 64#32
  let v4715 : BitVec 32 := Scalar.muli v4383 c64_i32_995
  v4715
def k0_off63 (k0_t4 : Fin k0_t4_loop.trips) (c0_i32_789 : BitVec 32) : Fin 2 → Nat :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let c64_i32_995 : BitVec 32 := 64#32
  let v4715 : BitVec 32 := Scalar.muli v4383 c64_i32_995
  let v4716 : BitVec 32 := v4715
  let v4717 : Index := Scalar.indexCast v4716
  let c384_996 : Index := 384#32
  ![v4717.toNat, 384]
def k0_mult288 (k0_t4 : Fin k0_t4_loop.trips) : BitVec 32 :=
  let c31_i32_1020 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let v4752 : BitVec 32 := Scalar.subi c31_i32_1020 v4383
  let c64_i32_1021 : BitVec 32 := 64#32
  let v4753 : BitVec 32 := Scalar.muli v4752 c64_i32_1021
  v4753
def k0_off64 (k0_t4 : Fin k0_t4_loop.trips) (c0_i32_789 : BitVec 32) : Fin 2 → Nat :=
  let c31_i32_1020 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let v4383 : BitVec 32 := Scalar.addi v4382 c0_i32_789
  let v4752 : BitVec 32 := Scalar.subi c31_i32_1020 v4383
  let c64_i32_1021 : BitVec 32 := 64#32
  let v4753 : BitVec 32 := Scalar.muli v4752 c64_i32_1021
  let v4754 : BitVec 32 := v4753
  let v4755 : Index := Scalar.indexCast v4754
  let c384_1022 : Index := 384#32
  ![v4755.toNat, 384]
def k0_mult289 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_1046 : BitVec 32 := 64#32
  let v4790 : BitVec 32 := Scalar.muli v4385 c64_i32_1046
  v4790
def k0_mult290 (k0_t4 : Fin k0_t4_loop.trips) : BitVec 32 :=
  let c31_i32_1102 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v5223 : BitVec 32 := Scalar.subi c31_i32_1102 v4385
  let c64_i32_1103 : BitVec 32 := 64#32
  let v5224 : BitVec 32 := Scalar.muli v5223 c64_i32_1103
  v5224
def k0_mult291 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_1159 : BitVec 32 := 64#32
  let v5657 : BitVec 32 := Scalar.muli v4385 c64_i32_1159
  v5657
def k0_mult292 (k0_t4 : Fin k0_t4_loop.trips) : BitVec 32 :=
  let c31_i32_1215 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v6090 : BitVec 32 := Scalar.subi c31_i32_1215 v4385
  let c64_i32_1216 : BitVec 32 := 64#32
  let v6091 : BitVec 32 := Scalar.muli v6090 c64_i32_1216
  v6091
def k0_mult293 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_1272 : BitVec 32 := 64#32
  let v6524 : BitVec 32 := Scalar.muli v4385 c64_i32_1272
  v6524
def k0_mult294 (k0_t4 : Fin k0_t4_loop.trips) : BitVec 32 :=
  let c31_i32_1328 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v6957 : BitVec 32 := Scalar.subi c31_i32_1328 v4385
  let c64_i32_1329 : BitVec 32 := 64#32
  let v6958 : BitVec 32 := Scalar.muli v6957 c64_i32_1329
  v6958
def k0_mult295 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let c64_i32_1385 : BitVec 32 := 64#32
  let v7391 : BitVec 32 := Scalar.muli v4385 c64_i32_1385
  v7391
def k0_mult296 (k0_t4 : Fin k0_t4_loop.trips) : BitVec 32 :=
  let c31_i32_1441 : BitVec 32 := 31#32
  let c8_i32_785 : BitVec 32 := 8#32
  let c1_i32_787 : BitVec 32 := 1#32
  let arg20 : BitVec 32 := Scf.iv c8_i32_785 c1_i32_787 k0_t4
  let c2_i32 : BitVec 32 := 2#32
  let v4382 : BitVec 32 := Scalar.muli arg20 c2_i32
  let c0_i32_789 : BitVec 32 := 0#32
  let v4383 : BitVec 32 := Scalar.addi v4382 c0_i32_789
  let c1_i32_790 : BitVec 32 := 1#32
  let v4384 : BitVec 32 := Scalar.addi v4383 c1_i32_790
  let c31_i32 : BitVec 32 := 31#32
  let v4385 : BitVec 32 := Scalar.minsi v4384 c31_i32
  let v7824 : BitVec 32 := Scalar.subi c31_i32_1441 v4385
  let c64_i32_1442 : BitVec 32 := 64#32
  let v7825 : BitVec 32 := Scalar.muli v7824 c64_i32_1442
  v7825
def k0_mult297 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let c64_i32_1566 : BitVec 32 := 64#32
  let v8382 : BitVec 32 := Scalar.muli v8381 c64_i32_1566
  v8382
def k0_mult298 (k0_t4 : Fin k0_t4_loop.trips) : BitVec 32 :=
  let c31_i32_1568 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let v8386 : BitVec 32 := Scalar.subi c31_i32_1568 v8381
  let c64_i32_1569 : BitVec 32 := 64#32
  let v8387 : BitVec 32 := Scalar.muli v8386 c64_i32_1569
  v8387
def k0_mult299 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let c64_i32_1572 : BitVec 32 := 64#32
  let v8403 : BitVec 32 := Scalar.muli v8381 c64_i32_1572
  v8403
def k0_mult300 (k0_t4 : Fin k0_t4_loop.trips) : BitVec 32 :=
  let c31_i32_1574 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let v8407 : BitVec 32 := Scalar.subi c31_i32_1574 v8381
  let c64_i32_1575 : BitVec 32 := 64#32
  let v8408 : BitVec 32 := Scalar.muli v8407 c64_i32_1575
  v8408
def k0_mult301 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let c64_i32_1578 : BitVec 32 := 64#32
  let v8424 : BitVec 32 := Scalar.muli v8381 c64_i32_1578
  v8424
def k0_mult302 (k0_t4 : Fin k0_t4_loop.trips) : BitVec 32 :=
  let c31_i32_1580 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let v8428 : BitVec 32 := Scalar.subi c31_i32_1580 v8381
  let c64_i32_1581 : BitVec 32 := 64#32
  let v8429 : BitVec 32 := Scalar.muli v8428 c64_i32_1581
  v8429
def k0_mult303 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let c64_i32_1584 : BitVec 32 := 64#32
  let v8445 : BitVec 32 := Scalar.muli v8381 c64_i32_1584
  v8445
def k0_mult304 (k0_t4 : Fin k0_t4_loop.trips) : BitVec 32 :=
  let c31_i32_1586 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let v8449 : BitVec 32 := Scalar.subi c31_i32_1586 v8381
  let c64_i32_1587 : BitVec 32 := 64#32
  let v8450 : BitVec 32 := Scalar.muli v8449 c64_i32_1587
  v8450
def k0_mult305 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c64_i32_1597 : BitVec 32 := 64#32
  let v8471 : BitVec 32 := Scalar.muli v8379 c64_i32_1597
  v8471
def k0_mult306 (k0_t4 : Fin k0_t4_loop.trips) : BitVec 32 :=
  let c31_i32_1622 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let v8508 : BitVec 32 := Scalar.subi c31_i32_1622 v8379
  let c64_i32_1623 : BitVec 32 := 64#32
  let v8509 : BitVec 32 := Scalar.muli v8508 c64_i32_1623
  v8509
def k0_mult307 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c64_i32_1655 : BitVec 32 := 64#32
  let v8551 : BitVec 32 := Scalar.muli v8379 c64_i32_1655
  v8551
def k0_mult308 (k0_t4 : Fin k0_t4_loop.trips) : BitVec 32 :=
  let c31_i32_1680 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let v8588 : BitVec 32 := Scalar.subi c31_i32_1680 v8379
  let c64_i32_1681 : BitVec 32 := 64#32
  let v8589 : BitVec 32 := Scalar.muli v8588 c64_i32_1681
  v8589
def k0_mult309 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c64_i32_1713 : BitVec 32 := 64#32
  let v8631 : BitVec 32 := Scalar.muli v8379 c64_i32_1713
  v8631
def k0_mult310 (k0_t4 : Fin k0_t4_loop.trips) : BitVec 32 :=
  let c31_i32_1738 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let v8668 : BitVec 32 := Scalar.subi c31_i32_1738 v8379
  let c64_i32_1739 : BitVec 32 := 64#32
  let v8669 : BitVec 32 := Scalar.muli v8668 c64_i32_1739
  v8669
def k0_mult311 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c64_i32_1771 : BitVec 32 := 64#32
  let v8711 : BitVec 32 := Scalar.muli v8379 c64_i32_1771
  v8711
def k0_mult312 (k0_t4 : Fin k0_t4_loop.trips) : BitVec 32 :=
  let c31_i32_1796 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let v8748 : BitVec 32 := Scalar.subi c31_i32_1796 v8379
  let c64_i32_1797 : BitVec 32 := 64#32
  let v8749 : BitVec 32 := Scalar.muli v8748 c64_i32_1797
  v8749
def k0_mult313 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let c64_i32_1822 : BitVec 32 := 64#32
  let v8786 : BitVec 32 := Scalar.muli v8381 c64_i32_1822
  v8786
def k0_mult314 (k0_t4 : Fin k0_t4_loop.trips) : BitVec 32 :=
  let c31_i32_1878 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let v9219 : BitVec 32 := Scalar.subi c31_i32_1878 v8381
  let c64_i32_1879 : BitVec 32 := 64#32
  let v9220 : BitVec 32 := Scalar.muli v9219 c64_i32_1879
  v9220
def k0_mult315 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let c64_i32_1935 : BitVec 32 := 64#32
  let v9653 : BitVec 32 := Scalar.muli v8381 c64_i32_1935
  v9653
def k0_mult316 (k0_t4 : Fin k0_t4_loop.trips) : BitVec 32 :=
  let c31_i32_1991 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let v10086 : BitVec 32 := Scalar.subi c31_i32_1991 v8381
  let c64_i32_1992 : BitVec 32 := 64#32
  let v10087 : BitVec 32 := Scalar.muli v10086 c64_i32_1992
  v10087
def k0_mult317 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let c64_i32_2048 : BitVec 32 := 64#32
  let v10520 : BitVec 32 := Scalar.muli v8381 c64_i32_2048
  v10520
def k0_mult318 (k0_t4 : Fin k0_t4_loop.trips) : BitVec 32 :=
  let c31_i32_2104 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let v10953 : BitVec 32 := Scalar.subi c31_i32_2104 v8381
  let c64_i32_2105 : BitVec 32 := 64#32
  let v10954 : BitVec 32 := Scalar.muli v10953 c64_i32_2105
  v10954
def k0_mult319 (k0_t4 : Fin k0_t4_loop.trips) : BitVec 32 :=
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let c64_i32_2161 : BitVec 32 := 64#32
  let v11387 : BitVec 32 := Scalar.muli v8381 c64_i32_2161
  v11387
def k0_mult320 (k0_t4 : Fin k0_t4_loop.trips) : BitVec 32 :=
  let c31_i32_2217 : BitVec 32 := 31#32
  let c8_i32_785 : BitVec 32 := 8#32
  let c1_i32_787 : BitVec 32 := 1#32
  let arg20 : BitVec 32 := Scf.iv c8_i32_785 c1_i32_787 k0_t4
  let c2_i32_1562 : BitVec 32 := 2#32
  let v8378 : BitVec 32 := Scalar.muli arg20 c2_i32_1562
  let c1_i32_1563 : BitVec 32 := 1#32
  let v8379 : BitVec 32 := Scalar.addi v8378 c1_i32_1563
  let c1_i32_1564 : BitVec 32 := 1#32
  let v8380 : BitVec 32 := Scalar.addi v8379 c1_i32_1564
  let c31_i32_1565 : BitVec 32 := 31#32
  let v8381 : BitVec 32 := Scalar.minsi v8380 c31_i32_1565
  let v11820 : BitVec 32 := Scalar.subi c31_i32_2217 v8381
  let c64_i32_2218 : BitVec 32 := 64#32
  let v11821 : BitVec 32 := Scalar.muli v11820 c64_i32_2218
  v11821
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2048x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2.lean ====
abbrev S32768x1024 : Shape := ⟨2, ![32768, 1024]⟩
abbrev S24x9x1024 : Shape := ⟨3, ![24, 9, 1024]⟩
abbrev S3x1024 : Shape := ⟨2, ![3, 1024]⟩
abbrev S1x512 : Shape := ⟨2, ![1, 512]⟩
abbrev S32768x512 : Shape := ⟨2, ![32768, 512]⟩
abbrev S1024x2560 : Shape := ⟨2, ![1024, 2560]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x9x1024 : Shape := ⟨3, ![1, 9, 1024]⟩
abbrev S512x512 : Shape := ⟨2, ![512, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1024 : Shape := ⟨3, ![1, 1, 1024]⟩
abbrev S256x2560 : Shape := ⟨2, ![256, 2560]⟩
abbrev S256x512 : Shape := ⟨2, ![256, 512]⟩
abbrev S256x5632 : Shape := ⟨2, ![256, 5632]⟩
abbrev S256x2816 : Shape := ⟨2, ![256, 2816]⟩

abbrev nBuf : Space → Nat
  | .hbm => 14
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S24x9x1024, .f32⟩
  | .hbm, ⟨2, _⟩ => ⟨S3x1024, .f32⟩
  | .hbm, ⟨3, _⟩ => ⟨S3x1024, .f32⟩
  | .hbm, ⟨4, _⟩ => ⟨S1x512, .f32⟩
  | .hbm, ⟨5, _⟩ => ⟨S32768x512, .bf16⟩
  | .hbm, ⟨6, _⟩ => ⟨S32768x512, .f32⟩
  | .hbm, ⟨7, _⟩ => ⟨S1024x2560, .bf16⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S3x1024, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S1024x2560, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x5632, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S24x9x1024 : Shape := ⟨3, ![24, 9, 1024]⟩
abbrev S3x1024 : Shape := ⟨2, ![3, 1024]⟩
abbrev S1x512 : Shape := ⟨2, ![1, 512]⟩
abbrev S32768x512 : Shape := ⟨2, ![32768, 512]⟩
abbrev S1024x2560 : Shape := ⟨2, ![1024, 2560]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S16x2048x1024 : Shape := ⟨3, ![16, 2048, 1024]⟩
abbrev S16x1x1024 : Shape := ⟨3, ![16, 1, 1024]⟩
abbrev S16x1024 : Shape := ⟨2, ![16, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2560 : Shape := ⟨3, ![16, 2048, 2560]⟩
abbrev S16x2048x512 : Shape := ⟨3, ![16, 2048, 512]⟩
abbrev S512 : Shape := ⟨1, ![512]⟩
abbrev S1x1x512 : Shape := ⟨3, ![1, 1, 512]⟩
abbrev S16x2048x5632 : Shape := ⟨3, ![16, 2048, 5632]⟩
abbrev S16x2048x2816 : Shape := ⟨3, ![16, 2048, 2816]⟩

abbrev nBuf : Space → Nat
  | .hbm => 214
  | .vmem => 0
  | .smem => 0
  | _ => 0

abbrev hbmTy0_0 (i : Nat) : BufTy := match i % 128 with
  | 0 => ⟨S32768x1024, .f32⟩
  | 1 => ⟨S24x9x1024, .f32⟩
  | 2 => ⟨S3x1024, .f32⟩
  | 3 => ⟨S3x1024, .f32⟩
  | 4 => ⟨S1x512, .f32⟩
  | 5 => ⟨S32768x512, .bf16⟩
  | 6 => ⟨S32768x512, .f32⟩
  | 7 => ⟨S1024x2560, .bf16⟩
  | 8 => ⟨S512x1024, .bf16⟩
  | 9 => ⟨S512x1024, .bf16⟩
  | 10 => ⟨S1024x1024, .bf16⟩
  | 11 => ⟨S1024x5632, .bf16⟩
  | 12 => ⟨S2816x1024, .bf16⟩
  | 13 => ⟨S16x2048x1024, .f32⟩
  | 14 => ⟨S16x1x1024, .f32⟩
  | 15 => ⟨S16x1024, .f32⟩
  | 16 => ⟨S16x1x1024, .f32⟩
  | 17 => ⟨S16x1x1024, .f32⟩
  | 18 => ⟨S16x1024, .f32⟩
  | 19 => ⟨S16x1x1024, .f32⟩
  | 20 => ⟨S16x1x1024, .f32⟩
  | 21 => ⟨S16x1024, .f32⟩
  | 22 => ⟨S16x1x1024, .f32⟩
  | 23 => ⟨S16x1x1024, .f32⟩
  | 24 => ⟨S16x1024, .f32⟩
  | 25 => ⟨S16x1x1024, .f32⟩
  | 26 => ⟨S16x1x1024, .f32⟩
  | 27 => ⟨S16x1024, .f32⟩
  | 28 => ⟨S16x1x1024, .f32⟩
  | 29 => ⟨S16x1x1024, .f32⟩
  | 30 => ⟨S16x1024, .f32⟩
  | 31 => ⟨S16x1x1024, .f32⟩
  | 32 => ⟨S16x1x1024, .f32⟩
  | 33 => ⟨S16x1024, .f32⟩
  | 34 => ⟨S16x1x1024, .f32⟩
  | 35 => ⟨S16x1x1024, .f32⟩
  | 36 => ⟨S16x1024, .f32⟩
  | 37 => ⟨S16x1x1024, .f32⟩
  | 38 => ⟨S16x1x1024, .f32⟩
  | 39 => ⟨S16x1024, .f32⟩
  | 40 => ⟨S16x1x1024, .f32⟩
  | 41 => ⟨S1x1024, .f32⟩
  | 42 => ⟨S1024, .f32⟩
  | 43 => ⟨S16x2048x1024, .f32⟩
  | 44 => ⟨S_, .f32⟩
  | 45 => ⟨S16x2048, .f32⟩
  | 46 => ⟨S16x2048x1, .f32⟩
  | 47 => ⟨S_, .f32⟩
  | 48 => ⟨S16x2048x1, .f32⟩
  | 49 => ⟨S16x2048x1, .f32⟩
  | 50 => ⟨S_, .f32⟩
  | 51 => ⟨S16x2048x1, .f32⟩
  | 52 => ⟨S16x2048x1, .f32⟩
  | 53 => ⟨S16x2048x1, .f32⟩
  | 54 => ⟨S16x2048x1024, .f32⟩
  | 55 => ⟨S16x2048x1024, .f32⟩
  | 56 => ⟨S1x1x1024, .f32⟩
  | 57 => ⟨S16x2048x1024, .f32⟩
  | 58 => ⟨S16x2048x1024, .f32⟩
  | 59 => ⟨S_, .f32⟩
  | 60 => ⟨S16x1x1024, .f32⟩
  | 61 => ⟨S16x1x1024, .f32⟩
  | 62 => ⟨S16x2048x1024, .f32⟩
  | 63 => ⟨S16x2048x1024, .f32⟩
  | 64 => ⟨S16x2048x1024, .f32⟩
  | 65 => ⟨S16x2048x1024, .f32⟩
  | 66 => ⟨S16x2048x1024, .bf16⟩
  | 67 => ⟨S16x2048x2560, .f32⟩
  | 68 => ⟨S16x2048x512, .f32⟩
  | 69 => ⟨S16x2048x1024, .f32⟩
  | 70 => ⟨S16x2048x1024, .f32⟩
  | 71 => ⟨S16x2048x512, .f32⟩
  | 72 => ⟨S512, .f32⟩
  | 73 => ⟨S16x2048x512, .f32⟩
  | 74 => ⟨S_, .f32⟩
  | 75 => ⟨S16x2048, .f32⟩
  | 76 => ⟨S16x2048x1, .f32⟩
  | 77 => ⟨S_, .f32⟩
  | 78 => ⟨S16x2048x1, .f32⟩
  | 79 => ⟨S16x2048x1, .f32⟩
  | 80 => ⟨S_, .f32⟩
  | 81 => ⟨S16x2048x1, .f32⟩
  | 82 => ⟨S16x2048x1, .f32⟩
  | 83 => ⟨S16x2048x1, .f32⟩
  | 84 => ⟨S16x2048x512, .f32⟩
  | 85 => ⟨S16x2048x512, .f32⟩
  | 86 => ⟨S1x1x512, .f32⟩
  | 87 => ⟨S16x2048x512, .f32⟩
  | 88 => ⟨S16x2048x512, .f32⟩
  | 89 => ⟨S16x2048x512, .f32⟩
  | 90 => ⟨S16x2048x512, .f32⟩
  | 91 => ⟨S_, .f32⟩
  | 92 => ⟨S16x2048x512, .f32⟩
  | 93 => ⟨S16x2048x512, .f32⟩
  | 94 => ⟨S_, .f32⟩
  | 95 => ⟨S16x2048x512, .f32⟩
  | 96 => ⟨S16x2048x512, .f32⟩
  | 97 => ⟨S16x2048x512, .f32⟩
  | 98 => ⟨S16x2048x512, .f32⟩
  | 99 => ⟨S16x2048x512, .bf16⟩
  | 100 => ⟨S16x2048x1024, .f32⟩
  | 101 => ⟨S16x2048x1024, .f32⟩
  | 102 => ⟨S_, .f32⟩
  | 103 => ⟨S16x2048x1024, .f32⟩
  | 104 => ⟨S16x2048x1024, .f32⟩
  | 105 => ⟨S_, .f32⟩
  | 106 => ⟨S16x2048x1024, .f32⟩
  | 107 => ⟨S16x2048x1024, .f32⟩
  | 108 => ⟨S16x2048x1024, .f32⟩
  | 109 => ⟨S16x2048x1024, .f32⟩
  | 110 => ⟨S16x2048x1024, .f32⟩
  | 111 => ⟨S16x2048x1024, .f32⟩
  | 112 => ⟨S_, .f32⟩
  | 113 => ⟨S16x2048x1024, .f32⟩
  | 114 => ⟨S16x2048x1024, .f32⟩
  | 115 => ⟨S_, .f32⟩
  | 116 => ⟨S16x2048x1024, .f32⟩
  | 117 => ⟨S16x2048x1024, .f32⟩
  | 118 => ⟨S16x2048x512, .bf16⟩
  | 119 => ⟨S16x2048x1024, .f32⟩
  | 120 => ⟨S16x2048x1024, .f32⟩
  | 121 => ⟨S16x2048x1024, .f32⟩
  | 122 => ⟨S16x2048x1024, .bf16⟩
  | 123 => ⟨S16x2048x1024, .f32⟩
  | 124 => ⟨S1x1024, .f32⟩
  | 125 => ⟨S1024, .f32⟩
  | 126 => ⟨S_, .f32⟩
  | 127 => ⟨S16x1x1024, .f32⟩
  | _ => ⟨S32768x1024, .f32⟩

abbrev hbmTy0_1 (i : Nat) : BufTy := match i % 128 with
  | 0 => ⟨S16x1x1024, .f32⟩
  | 1 => ⟨S16x2048x1024, .f32⟩
  | 2 => ⟨S_, .f32⟩
  | 3 => ⟨S16x2048, .f32⟩
  | 4 => ⟨S16x2048x1, .f32⟩
  | 5 => ⟨S_, .f32⟩
  | 6 => ⟨S16x2048x1, .f32⟩
  | 7 => ⟨S16x2048x1, .f32⟩
  | 8 => ⟨S_, .f32⟩
  | 9 => ⟨S16x2048x1, .f32⟩
  | 10 => ⟨S16x2048x1, .f32⟩
  | 11 => ⟨S16x2048x1, .f32⟩
  | 12 => ⟨S16x2048x1024, .f32⟩
  | 13 => ⟨S16x2048x1024, .f32⟩
  | 14 => ⟨S1x1x1024, .f32⟩
  | 15 => ⟨S16x2048x1024, .f32⟩
  | 16 => ⟨S16x2048x1024, .f32⟩
  | 17 => ⟨S16x2048x1024, .f32⟩
  | 18 => ⟨S16x2048x1024, .f32⟩
  | 19 => ⟨S16x2048x1024, .f32⟩
  | 20 => ⟨S1x1024, .f32⟩
  | 21 => ⟨S1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S_, .f32⟩
  | 30 => ⟨S16x2048x1, .f32⟩
  | 31 => ⟨S16x2048x1, .f32⟩
  | 32 => ⟨S16x2048x1, .f32⟩
  | 33 => ⟨S16x2048x1024, .f32⟩
  | 34 => ⟨S16x2048x1024, .f32⟩
  | 35 => ⟨S1x1x1024, .f32⟩
  | 36 => ⟨S16x2048x1024, .f32⟩
  | 37 => ⟨S16x2048x1024, .f32⟩
  | 38 => ⟨S_, .f32⟩
  | 39 => ⟨S16x1x1024, .f32⟩
  | 40 => ⟨S16x1x1024, .f32⟩
  | 41 => ⟨S16x2048x1024, .f32⟩
  | 42 => ⟨S16x2048x1024, .f32⟩
  | 43 => ⟨S16x2048x1024, .f32⟩
  | 44 => ⟨S16x2048x1024, .f32⟩
  | 45 => ⟨S16x2048x1024, .bf16⟩
  | 46 => ⟨S16x2048x5632, .f32⟩
  | 47 => ⟨S16x2048x2816, .f32⟩
  | 48 => ⟨S16x2048x2816, .f32⟩
  | 49 => ⟨S16x2048x2816, .f32⟩
  | 50 => ⟨S16x2048x2816, .f32⟩
  | 51 => ⟨S_, .f32⟩
  | 52 => ⟨S16x2048x2816, .f32⟩
  | 53 => ⟨S16x2048x2816, .f32⟩
  | 54 => ⟨S_, .f32⟩
  | 55 => ⟨S16x2048x2816, .f32⟩
  | 56 => ⟨S16x2048x2816, .f32⟩
  | 57 => ⟨S16x2048x2816, .f32⟩
  | 58 => ⟨S16x2048x2816, .f32⟩
  | 59 => ⟨S16x2048x2816, .bf16⟩
  | 60 => ⟨S16x2048x1024, .f32⟩
  | 61 => ⟨S1x1024, .f32⟩
  | 62 => ⟨S1024, .f32⟩
  | 63 => ⟨S_, .f32⟩
  | 64 => ⟨S16x1x1024, .f32⟩
  | 65 => ⟨S16x1x1024, .f32⟩
  | 66 => ⟨S16x2048x1024, .f32⟩
  | 67 => ⟨S_, .f32⟩
  | 68 => ⟨S16x2048, .f32⟩
  | 69 => ⟨S16x2048x1, .f32⟩
  | 70 => ⟨S_, .f32⟩
  | 71 => ⟨S16x2048x1, .f32⟩
  | 72 => ⟨S16x2048x1, .f32⟩
  | 73 => ⟨S_, .f32⟩
  | 74 => ⟨S16x2048x1, .f32⟩
  | 75 => ⟨S16x2048x1, .f32⟩
  | 76 => ⟨S16x2048x1, .f32⟩
  | 77 => ⟨S16x2048x1024, .f32⟩
  | 78 => ⟨S16x2048x1024, .f32⟩
  | 79 => ⟨S1x1x1024, .f32⟩
  | 80 => ⟨S16x2048x1024, .f32⟩
  | 81 => ⟨S16x2048x1024, .f32⟩
  | 82 => ⟨S16x2048x1024, .f32⟩
  | 83 => ⟨S16x2048x1024, .f32⟩
  | 84 => ⟨S16x2048x1024, .f32⟩
  | 85 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_3 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_cst_5 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_6 : Ref sig .tc := ⟨.hbm, 102, rfl⟩
abbrev main_v74 : Ref sig .tc := ⟨.hbm, 103, rfl⟩
abbrev main_v75 : Ref sig .tc := ⟨.hbm, 104, rfl⟩
abbrev main_cst_7 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_8 : Ref sig .tc := ⟨.hbm, 112, rfl⟩
abbrev main_v82 : Ref sig .tc := ⟨.hbm, 113, rfl⟩
abbrev main_v83 : Ref sig .tc := ⟨.hbm, 114, rfl⟩
abbrev main_cst_9 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_10 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_11 : Ref sig .tc := ⟨.hbm, 130, rfl⟩
abbrev main_v97 : Ref sig .tc := ⟨.hbm, 131, rfl⟩
abbrev main_v98 : Ref sig .tc := ⟨.hbm, 132, rfl⟩
abbrev main_cst_12 : Ref sig .tc := ⟨.hbm, 133, rfl⟩
abbrev main_v99 : Ref sig .tc := ⟨.hbm, 134, rfl⟩
abbrev main_v100 : Ref sig .tc := ⟨.hbm, 135, rfl⟩
abbrev main_cst_13 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_14 : Ref sig .tc := ⟨.hbm, 151, rfl⟩
abbrev main_v115 : Ref sig .tc := ⟨.hbm, 152, rfl⟩
abbrev main_v116 : Ref sig .tc := ⟨.hbm, 153, rfl⟩
abbrev main_cst_15 : Ref sig .tc := ⟨.hbm, 154, rfl⟩
abbrev main_v117 : Ref sig .tc := ⟨.hbm, 155, rfl⟩
abbrev main_v118 : Ref sig .tc := ⟨.hbm, 156, rfl⟩
abbrev main_cst_16 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_17 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_call1_v0 : Ref sig .tc := ⟨.hbm, 177, rfl⟩
abbrev main_call1_v1 : Ref sig .tc := ⟨.hbm, 178, rfl⟩
abbrev main_call1_cst : Ref sig .tc := ⟨.hbm, 179, rfl⟩
abbrev main_call1_v2 : Ref sig .tc := ⟨.hbm, 180, rfl⟩
abbrev main_call1_v3 : Ref sig .tc := ⟨.hbm, 181, rfl⟩
abbrev main_call1_cst_0 : Ref sig .tc := ⟨.hbm, 182, rfl⟩
abbrev main_call1_v4 : Ref sig .tc := ⟨.hbm, 183, rfl⟩
abbrev main_call1_v5 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_18 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_19 : Ref sig .tc := ⟨.hbm, 195, rfl⟩
abbrev main_v146 : Ref sig .tc := ⟨.hbm, 196, rfl⟩
abbrev main_v147 : Ref sig .tc := ⟨.hbm, 197, rfl⟩
abbrev main_cst_20 : Ref sig .tc := ⟨.hbm, 198, rfl⟩
abbrev main_v148 : Ref sig .tc := ⟨.hbm, 199, rfl⟩
abbrev main_v149 : Ref sig .tc := ⟨.hbm, 200, rfl⟩
abbrev main_cst_21 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩

abbrev nD : Nat := 1
abbrev τ : Topo := Topo.v7x

variable {F : FTy → Type} [FloatOps F]
-- ==== Kernel3.lean ====
abbrev S32768x1024 : Shape := ⟨2, ![32768, 1024]⟩
abbrev S24x9x1024 : Shape := ⟨3, ![24, 9, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S1x9x1024 : Shape := ⟨3, ![1, 9, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S24x9x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x1024 : Shape := ⟨2, ![32768, 1024]⟩
abbrev S24x9x1024 : Shape := ⟨3, ![24, 9, 1024]⟩
abbrev S1x1024 : Shape := ⟨2, ![1, 1024]⟩
abbrev S1024x5632 : Shape := ⟨2, ![1024, 5632]⟩
abbrev S2816x1024 : Shape := ⟨2, ![2816, 1024]⟩
abbrev S16x2048x1024 : Shape := ⟨3, ![16, 2048, 1024]⟩
abbrev S16x1x1024 : Shape := ⟨3, ![16, 1, 1024]⟩
abbrev S16x1024 : Shape := ⟨2, ![16, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 98
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S24x9x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S16x2048x1024, .f32⟩
  | .hbm, ⟨7, _⟩ => ⟨S16x1x1024, .f32⟩
  | .hbm, ⟨8, _⟩ => ⟨S16x1024, .f32⟩
  | .hbm, ⟨9, _⟩ => ⟨S16x1x1024, .f32⟩
  | .hbm, ⟨10, _⟩ => ⟨S16x1x1024, .f32⟩
  | .hbm, ⟨11, _⟩ => ⟨S16x1024, .f32⟩
  | .hbm, ⟨12, _⟩ => ⟨S16x1x1024, .f32⟩
  | .hbm, ⟨13, _⟩ => ⟨S16x1x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x1024, .f32⟩
  | .hbm, ⟨18, _⟩ => ⟨S16x1x1024, .f32⟩
  | .hbm, ⟨19, _⟩ => ⟨S16x1x1024, .f32⟩
  | .hbm, ⟨20, _⟩ => ⟨S16x1024, .f32⟩
  | .hbm, ⟨21, _⟩ => ⟨S16x1x1024, .f32⟩
  | .hbm, ⟨22, _⟩ => ⟨S16x1x1024, .f32⟩
  | .hbm, ⟨23, _⟩ => ⟨S16x1024, .f32⟩
  | .hbm, ⟨24, _⟩ => ⟨S16x1x1024, .f32⟩
  | .hbm, ⟨25, _⟩ => ⟨S16x1x1024, .f32⟩
  | .hbm, ⟨26, _⟩ => ⟨S16x1024, .f32⟩
  | .hbm, ⟨27, _⟩ => ⟨S16x1x1024, .f32⟩
  | .hbm, ⟨28, _⟩ => ⟨S16x1x1024, .f32⟩
  | .hbm, ⟨29, _⟩ => ⟨S16x1024, .f32⟩
  | .hbm, ⟨30, _⟩ => ⟨S16x1x1024, .f32⟩
  | .hbm, ⟨31, _⟩ => ⟨S16x1x1024, .f32⟩
  | .hbm, ⟨32, _⟩ => ⟨S16x1024, .f32⟩
  | .hbm, ⟨33, _⟩ => ⟨S16x1x1024, .f32⟩
  | .hbm, ⟨34, _⟩ => ⟨S1024, .f32⟩
  | .hbm, ⟨35, _⟩ => ⟨S16x2048x1024, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x1x1024, .f32⟩
  | .hbm, ⟨53, _⟩ => ⟨S16x1x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .bf16⟩
  | .hbm, ⟨59, _⟩ => ⟨S16x2048x5632, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S_, .f32⟩
  | .hbm, ⟨65, _⟩ => ⟨S16x2048x2816, .f32⟩
  | .hbm, ⟨66, _⟩ => ⟨S16x2048x2816, .f32⟩
  | .hbm, ⟨67, _⟩ => ⟨S_, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S16x2048x2816, .f32⟩
  | .hbm, ⟨72, _⟩ => ⟨S16x2048x2816, .bf16⟩
  | .hbm, ⟨73, _⟩ => ⟨S16x2048x1024, .f32⟩
  | .hbm, ⟨74, _⟩ => ⟨S1024, .f32⟩
  | .hbm, ⟨75, _⟩ => ⟨S_, .f32⟩
  | .hbm, ⟨76, _⟩ => ⟨S16x1x1024, .f32⟩
  | .hbm, ⟨77, _⟩ => ⟨S16x1x1024, .f32⟩
  | .hbm, ⟨78, _⟩ => ⟨S16x2048x1024, .f32⟩
  | .hbm, ⟨79, _⟩ => ⟨S_, .f32⟩
  | .hbm, ⟨80, _⟩ => ⟨S16x2048, .f32⟩
  | .hbm, ⟨81, _⟩ => ⟨S16x2048x1, .f32⟩
  | .hbm, ⟨82, _⟩ => ⟨S_, .f32⟩
  | .hbm, ⟨83, _⟩ => ⟨S16x2048x1, .f32⟩
  | .hbm, ⟨84, _⟩ => ⟨S16x2048x1, .f32⟩
  | .hbm, ⟨85, _⟩ => ⟨S_, .f32⟩
  | .hbm, ⟨86, _⟩ => ⟨S16x2048x1, .f32⟩
  | .hbm, ⟨87, _⟩ => ⟨S16x2048x1, .f32⟩
  | .hbm, ⟨88, _⟩ => ⟨S16x2048x1, .f32⟩
  | .hbm, ⟨89, _⟩ => ⟨S16x2048x1024, .f32⟩
  | .hbm, ⟨90, _⟩ => ⟨S16x2048x1024, .f32⟩
  | .hbm, ⟨91, _⟩ => ⟨S1x1x1024, .f32⟩
  | .hbm, ⟨92, _⟩ => ⟨S16x2048x1024, .f32⟩
  | .hbm, ⟨93, _⟩ => ⟨S16x2048x1024, .f32⟩
  | .hbm, ⟨94, _⟩ => ⟨S16x2048x1024, .f32⟩
  | .hbm, ⟨95, _⟩ => ⟨S16x2048x1024, .f32⟩
  | .hbm, ⟨96, _⟩ => ⟨S16x2048x1024, .f32⟩
  | .hbm, ⟨97, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_3 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_cst_5 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Proof.Safe.lean ====
/-
  Straight-line programs that only load and store: when such a program, run while its core holds `R`, terminates and
  gives `R` back. `Safe R p` says that; one lemma per construct of a printed kernel (return, bind, load, store, branch,
  counted loop) builds it up, so that a kernel's body is gone through once, without naming what its buffers hold.
-/
module

public import Idealize.ShloMosaic.Rules.Step
public import Idealize.ShloMosaic.Lib.Memref
public import Idealize.ShloMosaic.Lib.Scf
public import Idealize.ShloMosaic.Lib.Writes
public import Idealize.ShloMosaic.Lib.Tactic
public import Idealize.ShloMosaic.Lib.Pipeline.FrameBody

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- The program `p` on the TensorCore of `c`, holding `R`, ends and hands `R` back, whatever it returns. -/
def Safe (defs : Defs nD τ sig Val Λ) (𝒱 : Variants) (c : Dev nD) (E : Set ℕ) (R : sProp 𝕄) {α : Type}
    (p : Prog (TpuEff nD τ sig Val Λ .tc) α) : Prop :=
  ∀ Q : α → sProp 𝕄, iprop(R ∗ (∀ a, R -∗ Q a)) ⊢ wp frame (wpE defs 𝒱 (c : Thread nD τ) none) E p Q

/-- `R` holds the memref `m`, at contents that meet some predicate, beside something else. -/
def Reads (c : Dev nD) (R : sProp 𝕄) {sp : Space} {s : Shape} {e : EltTy} (m : Memref sig .tc sp s e) : Prop :=
  ∃ (q : PosShare TreeShare) (P : (s.Idx → Val e) → Prop) (G : sProp 𝕄),
    (R ⊢ iprop((∃ X, ⌜P X⌝ ∗ owns (c : Thread nD τ) m q X) ∗ G)) ∧ (iprop((∃ X, ⌜P X⌝ ∗ owns (c : Thread nD τ) m q X) ∗ G) ⊢ R)

/-- `R` holds the memref `m` whole, at any contents, beside something else. -/
def Writes (c : Dev nD) (R : sProp 𝕄) {sp : Space} {s : Shape} {e : EltTy} (m : Memref sig .tc sp s e) : Prop :=
  ∃ G : sProp 𝕄, (R ⊢ iprop((∃ X, owns (c : Thread nD τ) m fullShare X) ∗ G))
    ∧ (iprop((∃ X, owns (c : Thread nD τ) m fullShare X) ∗ G) ⊢ R)

theorem Writes.reads {c : Dev nD} {R : sProp 𝕄} {sp : Space} {s : Shape} {e : EltTy} {m : Memref sig .tc sp s e}
    (h : Writes c R m) : Reads c R m := by
  obtain ⟨G, h₁, h₂⟩ := h
  refine ⟨fullShare, fun _ => True, G, h₁.trans ?_, BIBase.Entails.trans ?_ h₂⟩
  · iintro ⟨⟨%X, H⟩, HG⟩
    isplitl [H]
    · iexists X
      isplitr
      · ipureintro; trivial
      · iexact H
    · iexact HG
  · iintro ⟨⟨%X, -, H⟩, HG⟩
    isplitl [H]
    · iexists X
      iexact H
    · iexact HG

section Rules

variable {defs : Defs nD τ sig Val Λ} {𝒱 : Variants} {c : Dev nD} {E : Set ℕ} {α β : Type}

theorem Safe.ret {R : sProp 𝕄} (a : α) : Safe defs 𝒱 c E R (.ret a) := by
  intro Q
  rw [wp_ret]
  iintro ⟨HR, HQ⟩
  imodintro
  iapply HQ; iexact HR

theorem Safe.pure {R : sProp 𝕄} (a : α) : Safe defs 𝒱 c E R (Pure.pure a) := Safe.ret a

theorem Safe.bind {R : sProp 𝕄} {p : Prog (TpuEff nD τ sig Val Λ .tc) α} {k : α → Prog (TpuEff nD τ sig Val Λ .tc) β}
    (hp : Safe defs 𝒱 c E R p) (hk : ∀ a, Safe defs 𝒱 c E R (k a)) : Safe defs 𝒱 c E R (p >>= k) := by
  intro Q
  rw [wp_bind]
  refine BIBase.Entails.trans ?_ (hp _)
  iintro ⟨HR, HQ⟩
  isplitl [HR]
  · iexact HR
  · iintro %a HR
    iapply (hk a Q)
    isplitl [HR]
    · iexact HR
    · iexact HQ

theorem Safe.load {R : sProp 𝕄} {cs : CoreSpace} {s : Shape} {e : EltTy} {m : Memref sig .tc cs s e} {r : LoadRect s} {hl : m.view.LoadsAt r}
    (h : Reads c R m) : Safe defs 𝒱 c E R (Prog.lift (.load m r hl)) := by
  obtain ⟨q, P, G, h₁, h₂⟩ := h
  intro Q
  refine (sep_mono_left h₁).trans ?_
  unfold owns at h₂ ⊢
  iintro ⟨⟨⟨%X, %hX, %f, %hf, H⟩, HG⟩, HQ⟩
  iapply (wp_load 𝒱 (c : Thread nD τ) none E (m := m) (r := r) (hl := hl) (k := fun x => .ret x) (Q := Q)
    (S := m.view.set) (q := q) (f := f) (View.setOn_subset_set _ _)) $$ H
  iintro H
  rw [wp_ret]
  imodintro
  iapply HQ
  iapply h₂
  isplitl [H]
  · iexists X
    isplitr
    · ipureintro; exact hX
    · iexists f
      isplitr
      · ipureintro; exact hf
      · iexact H
  · iexact HG

theorem Safe.store {R : sProp 𝕄} {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    (h : Writes c R m) : Safe defs 𝒱 c E R (Prog.lift (.store m r w Mk hx hm)) := by
  obtain ⟨G, h₁, h₂⟩ := h
  intro Q
  refine (sep_mono_left h₁).trans ?_
  unfold owns at h₂ ⊢
  iintro ⟨⟨⟨%X, %f, %hf, H⟩, HG⟩, HQ⟩
  iapply (wp_store 𝒱 (c : Thread nD τ) none E (m := m) (r := r) (w := w) (Mk := Mk) (hx := hx) (hm := hm) (k := fun x => .ret x) (Q := Q)
    (S := m.view.set) (f := f) ((View.setOn_subset_set _ _).trans (View.set_slice_subset _ _))) $$ H
  iintro H
  rw [wp_ret]
  imodintro
  iapply HQ
  iapply h₂
  isplitl [H]
  · iexists (m.view.read Val ((m.access r).write Val f w Mk))
    iexists ((m.access r).write Val f w Mk)
    isplitr
    · ipureintro; rfl
    · iexact H
  · iexact HG

theorem Safe.ite {R : sProp 𝕄} {P : Prop} [Decidable P] {p q : Prog (TpuEff nD τ sig Val Λ .tc) α}
    (hp : Safe defs 𝒱 c E R p) (hq : Safe defs 𝒱 c E R q) : Safe defs 𝒱 c E R (if P then p else q) := by
  split
  · exact hp
  · exact hq

theorem Safe.loop {R : sProp 𝕄} {l : Scf.Loop 32} {hok : l.OK} {body : Fin l.trips → PUnit → Prog (TpuEff nD τ sig Val Λ .tc) PUnit}
    (hb : ∀ k a, Safe defs 𝒱 c E R (body k a)) : Safe defs 𝒱 c E R (Scf.Loop.for l hok ⟨⟩ body) := by
  intro Q
  refine BIBase.Entails.trans ?_ (Scf.wp_for frame (wpE defs 𝒱 (c : Thread nD τ) none) E l.lb l.ub l.st hok ⟨⟩ body (fun _ _ => R)
    (fun k a => ?_))
  · exact .rfl
  · refine BIBase.Entails.trans ?_ (hb k a _)
    iintro HR
    isplitl [HR]
    · iexact HR
    · iintro %a HR
      iexact HR

end Rules

end Cert.Safe

end
-- ==== Proof.Body.lean ====
/-
  The body of `hgrn`, gone through once, over any float values: it only loads from buffers that are held, stores into
  buffers that are held whole, loops and branches, so that it ends and leaves its buffers held. Both branches of its
  condition are gone through, whichever is taken.
-/
module

public import proofs.«01_k».proof.KernelIdeal
public import proofs.«01_k».proof.Proof.Safe

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem
open Cert.Safe

variable {F : FTy → Type} [FloatOps F]

local notation "𝕄" => MT nD τ sig Unit (Elt F) ℕ (UR sig nD τ) ℕ

/-- `R` holds the kernel's operands: those it only reads at some contents, its result and its scratch whole. -/
structure Held (c : Dev nD) (R : sProp 𝕄) (arg2 : Memref sig .tc .vmem S2048x512 .bf16) (arg3 : Memref sig .tc .vmem S2048x512 .bf16) (arg4 : Memref sig .tc .vmem S2048x512 .f32) (arg5 : Memref sig .tc .vmem S2048x512 .bf16) (arg6 : Memref sig .tc .vmem S2048x512 .f32) (arg7 : Memref sig .tc .vmem S2048x512 .bf16) (arg8 : Memref sig .tc .vmem S256x512 .bf16) (arg9 : Memref sig .tc .vmem S256x512 .f32) (arg10 : Memref sig .tc .vmem S256x512 .bf16) (arg11 : Memref sig .tc .vmem S256x512 .f32) (arg12 : Memref sig .tc .vmem S256x512 .bf16) (arg13 : Memref sig .tc .vmem S2048x128 .bf16) (arg14 : Memref sig .tc .vmem S2048x512 .f32) (arg15 : Memref sig .tc .vmem S4x2x128x128 .f32) (arg16 : Memref sig .tc .vmem S2x4x128x2048 .bf16) (arg17 : Memref sig .tc .vmem S2x4x2x64x512 .bf16) (arg18 : Memref sig .tc .vmem S2x4x2x512x128 .bf16) (arg19 : Memref sig .tc .vmem S2x4x2x64x128 .f32) : Prop where
  h2 : Reads c R arg2
  h3 : Reads c R arg3
  h4 : Reads c R arg4
  h5 : Reads c R arg5
  h6 : Reads c R arg6
  h7 : Reads c R arg7
  h8 : Reads c R arg8
  h9 : Reads c R arg9
  h10 : Reads c R arg10
  h11 : Reads c R arg11
  h12 : Reads c R arg12
  h13 : Reads c R arg13
  h14 : Writes c R arg14
  h15 : Writes c R arg15
  h16 : Writes c R arg16
  h17 : Writes c R arg17
  h18 : Writes c R arg18
  h19 : Writes c R arg19

variable [Facts]

set_option maxHeartbeats 20000000 in
set_option maxRecDepth 65536 in
/-- From anything that holds its operands, the printed function ends and leaves the same held. -/
theorem safe_body (defs : Defs nD τ sig (Elt F) Λ₀) (𝒱 : Variants) (c : Dev nD) (E : Set ℕ) (R : sProp 𝕄) (i : grid0.Coords) (arg2 : Memref sig .tc .vmem S2048x512 .bf16) (harg2 : arg2.IsWhole) (arg3 : Memref sig .tc .vmem S2048x512 .bf16) (harg3 : arg3.IsWhole) (arg4 : Memref sig .tc .vmem S2048x512 .f32) (harg4 : arg4.IsWhole) (arg5 : Memref sig .tc .vmem S2048x512 .bf16) (harg5 : arg5.IsWhole) (arg6 : Memref sig .tc .vmem S2048x512 .f32) (harg6 : arg6.IsWhole) (arg7 : Memref sig .tc .vmem S2048x512 .bf16) (harg7 : arg7.IsWhole) (arg8 : Memref sig .tc .vmem S256x512 .bf16) (harg8 : arg8.IsWhole) (arg9 : Memref sig .tc .vmem S256x512 .f32) (harg9 : arg9.IsWhole) (arg10 : Memref sig .tc .vmem S256x512 .bf16) (harg10 : arg10.IsWhole) (arg11 : Memref sig .tc .vmem S256x512 .f32) (harg11 : arg11.IsWhole) (arg12 : Memref sig .tc .vmem S256x512 .bf16) (harg12 : arg12.IsWhole) (arg13 : Memref sig .tc .vmem S2048x128 .bf16) (harg13 : arg13.IsWhole) (arg14 : Memref sig .tc .vmem S2048x512 .f32) (harg14 : arg14.IsWhole) (arg15 : Memref sig .tc .vmem S4x2x128x128 .f32) (harg15 : arg15.IsWhole) (arg16 : Memref sig .tc .vmem S2x4x128x2048 .bf16) (harg16 : arg16.IsWhole) (arg17 : Memref sig .tc .vmem S2x4x2x64x512 .bf16) (harg17 : arg17.IsWhole) (arg18 : Memref sig .tc .vmem S2x4x2x512x128 .bf16) (harg18 : arg18.IsWhole) (arg19 : Memref sig .tc .vmem S2x4x2x64x128 .f32) (harg19 : arg19.IsWhole)
    (h : Held c R arg2 arg3 arg4 arg5 arg6 arg7 arg8 arg9 arg10 arg11 arg12 arg13 arg14 arg15 arg16 arg17 arg18 arg19) : Safe defs 𝒱 c E R (cc0_hgrn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  obtain ⟨h2, h3, h4, h5, h6, h7, h8, h9, h10, h11, h12, h13, w14, w15, w16, w17, w18, w19⟩ := h
  have h14 := w14.reads
  have h15 := w15.reads
  have h16 := w16.reads
  have h17 := w17.reads
  have h18 := w18.reads
  have h19 := w19.reads
  repeat' first
    | with_reducible exact Safe.pure _
    | with_reducible refine Safe.bind ?_ fun _ => ?_
    | with_reducible exact Safe.load (by assumption)
    | with_reducible exact Safe.store (by assumption)
    | with_reducible refine Safe.loop fun _ _ => ?_
    | with_reducible refine Safe.ite ?_ ?_
    | refine Safe.bind ?_ fun _ => ?_
    | exact Safe.pure _

end Cert.KernelIdeal.Hand

end
-- ==== Proof.Held.lean ====
/-
  Where a memref is found in a separating conjunction: the core holds a memref (to write it) when some conjunct of what it
  holds is that memref at any contents.
-/
module

public import proofs.«01_k».proof.Proof.Safe

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type}

local notation "𝕄" => MT nD τ sig Unit Val ℕ (UR sig nD τ) ℕ

/-- The memref at any contents is held by itself. -/
theorem Writes.self {c : Dev nD} {sp : Space} {s : Shape} {e : EltTy} (m : Memref sig .tc sp s e) :
    Writes c (iprop(∃ X, owns (c : Thread nD τ) m fullShare X) : sProp 𝕄) m := by
  exact ⟨iprop(emp), Laws.sep_emp.2, Laws.sep_emp.1⟩

/-- A buffer of the core at any contents is its whole memref. -/
theorem Writes.whole {c : Dev nD} (b : Ref sig .tc) :
    Writes c (iprop(∃ f : Buf Val ((c : Thread nD τ).loc b), ((c : Thread nD τ).loc b) ↦{fullShare} f) : sProp 𝕄) (Memref.whole b) := by
  have h := Writes.self (τ := τ) (Val := Val) (c := c) (Memref.whole b)
  simp only [owns_whole] at h
  exact h

/-- What the left conjunct holds is held by the conjunction. -/
theorem Writes.left {c : Dev nD} {A B : sProp 𝕄} {sp : Space} {s : Shape} {e : EltTy} {m : Memref sig .tc sp s e}
    (h : Writes c A m) : Writes c iprop(A ∗ B) m := by
  obtain ⟨G, h₁, h₂⟩ := h
  refine ⟨iprop(G ∗ B), BIBase.Entails.trans (sep_mono_left h₁) ?_, BIBase.Entails.trans ?_ (sep_mono_left h₂)⟩
  · iintro ⟨⟨H, HG⟩, HB⟩
    isplitl [H]
    · iexact H
    isplitl [HG]
    · iexact HG
    · iexact HB
  · iintro ⟨H, HG, HB⟩
    isplitr [HB]
    · isplitl [H]
      · iexact H
      · iexact HG
    · iexact HB

/-- What the right conjunct holds is held by the conjunction. -/
theorem Writes.right {c : Dev nD} {A B : sProp 𝕄} {sp : Space} {s : Shape} {e : EltTy} {m : Memref sig .tc sp s e}
    (h : Writes c B m) : Writes c iprop(A ∗ B) m := by
  obtain ⟨G, h₁, h₂⟩ := h
  refine ⟨iprop(G ∗ A), ?_, ?_⟩
  · iintro ⟨HA, HB⟩
    ihave HB := h₁ $$ HB
    icases HB with ⟨H, HG⟩
    isplitl [H]
    · iexact H
    isplitl [HG]
    · iexact HG
    · iexact HA
  · iintro ⟨H, HG, HA⟩
    isplitl [HA]
    · iexact HA
    · iapply h₂
      isplitl [H]
      · iexact H
      · iexact HG

/-- A program that is safe while its core holds `R` ends holding `R`. -/
theorem Safe.keep {Λ : Labels} {defs : Defs nD τ sig Val Λ} {𝒱 : Variants} {c : Dev nD} {E : Set ℕ} {R : sProp 𝕄} {α : Type}
    {p : Prog (TpuEff nD τ sig Val Λ .tc) α} (h : Safe defs 𝒱 c E R p) :
    R ⊢ wp frame (wpE defs 𝒱 (c : Thread nD τ) none) E p (fun _ => R) := by
  refine BIBase.Entails.trans ?_ (h _)
  iintro H
  isplitl [H]
  · iexact H
  · iintro %a H
    iexact H

end Cert.Safe

end
-- ==== Proof.Run.lean ====
/-
  The run of the ideal program of `hgrn`, over any values: every input array ends as it began and every semaphore counter
  ends at zero. The body is gone through once (`safe_body`); at every grid point it holds each window's staging buffer and
  each scratch buffer at any contents and leaves them at any contents, so nothing is said here of the result array.
-/
module

public import proofs.«01_k».proof.Proof.Body
public import proofs.«01_k».proof.Proof.Held
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Safe Cert.KernelIdeal.Gen

variable {F : FTy → Type} [FloatOps F]

local notation "𝕄" => MT nD τ sig Unit (Elt F) ℕ (UR sig nD τ) ℕ

/-- The proof data: each window's array as the region finds it, the class invariant at every point. Of the contents
    after a point no claim is made, every window being forgotten, so that any will do. -/
abbrev dats (m : (ℓ : Loc nD τ sig) → Buf (Elt F) ℓ) (_p : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- The body at a point is the printed function on that point's staging buffers. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- At every point the body, holding every staging and scratch buffer at any contents, ends and hands them back. Nothing
    of the proof data enters but that its state at a point is those buffers and that it owes the same at every point. -/
theorem body_obligation (c : Dev nD) (D : Dat τ (Elt F) Unit ℕ (UR sig nD τ) ℕ cfg0 c)
    (hΦ : ∀ t, D.Φ t = Pipeline.ΦA spec0 c) (howed : ∀ t : Fin cfg0.N, D.owesAt () t.succ = D.owesAt () t.castSucc) :
    Pipeline.BodyObligationLoose D defs₀ Variants.none () Set.univ (fun _ => true) := by
  intro t
  rw [howed, hΦ, hΦ, bigSep_W0, defs₀_row]
  unfold Pipeline.ΦA
  rw [scopedRest0_eq]
  dsimp only
  suffices H : ∀ R : sProp 𝕄, Held c R (stage0_0 (cfg0.slots t 0)) (stage0_1 (cfg0.slots t 1)) (stage0_2 (cfg0.slots t 2))
      (stage0_3 (cfg0.slots t 3)) (stage0_4 (cfg0.slots t 4)) (stage0_5 (cfg0.slots t 5)) (stage0_6 (cfg0.slots t 6))
      (stage0_7 (cfg0.slots t 7)) (stage0_8 (cfg0.slots t 8)) (stage0_9 (cfg0.slots t 9)) (stage0_10 (cfg0.slots t 10))
      (stage0_11 (cfg0.slots t 11)) (stage0_12 (cfg0.slots t 12)) (Memref.whole cc0_scratch0) (Memref.whole cc0_scratch1)
      (Memref.whole cc0_scratch2) (Memref.whole cc0_scratch3) (Memref.whole cc0_scratch4) →
      (R ⊢ wp frame (wpE defs₀ Variants.none (c : Thread nD τ) none) Set.univ (bodyAt0 (F := F) t) (fun _ => R)) by
    refine H _ ?_
    constructor
    · exact Writes.reads (Writes.right (Writes.right (Writes.left (Writes.self _))))
    · exact Writes.reads (Writes.right (Writes.right (Writes.right (Writes.left (Writes.self _)))))
    · exact Writes.reads (Writes.right (Writes.right (Writes.right (Writes.right (Writes.left (Writes.self _))))))
    · exact Writes.reads (Writes.right (Writes.right (Writes.right (Writes.right (Writes.right (Writes.left (Writes.self _)))))))
    · exact Writes.reads (Writes.right (Writes.right (Writes.right (Writes.right (Writes.right (Writes.right (Writes.left (Writes.self _))))))))
    · exact Writes.reads (Writes.right (Writes.right (Writes.right (Writes.right (Writes.right (Writes.right (Writes.right (Writes.left (Writes.self _)))))))))
    · exact Writes.reads (Writes.right (Writes.right (Writes.right (Writes.right (Writes.right (Writes.right (Writes.right (Writes.right (Writes.left (Writes.self _))))))))))
    · exact Writes.reads (Writes.right (Writes.right (Writes.right (Writes.right (Writes.right (Writes.right (Writes.right (Writes.right (Writes.right (Writes.left (Writes.self _)))))))))))
    · exact Writes.reads (Writes.right (Writes.right (Writes.right (Writes.right (Writes.right (Writes.right (Writes.right (Writes.right (Writes.right (Writes.right (Writes.left (Writes.self _))))))))))))
    · exact Writes.reads (Writes.right (Writes.right (Writes.right (Writes.right (Writes.right (Writes.right (Writes.right (Writes.right (Writes.right (Writes.right (Writes.right (Writes.left (Writes.self _)))))))))))))
    · exact Writes.reads (Writes.right (Writes.right (Writes.right (Writes.right (Writes.right (Writes.right (Writes.right (Writes.right (Writes.right (Writes.right (Writes.right (Writes.right (Writes.left (Writes.self _))))))))))))))
    · exact Writes.reads (Writes.right (Writes.right (Writes.right (Writes.right (Writes.right (Writes.right (Writes.right (Writes.right (Writes.right (Writes.right (Writes.right (Writes.right (Writes.right (Writes.left (Writes.self _)))))))))))))))
    · exact (Writes.right (Writes.right (Writes.right (Writes.right (Writes.right (Writes.right (Writes.right (Writes.right (Writes.right (Writes.right (Writes.right (Writes.right (Writes.right (Writes.right (Writes.self _)))))))))))))))
    · exact (Writes.left (Writes.left (Writes.left (Writes.whole _))))
    · exact (Writes.left (Writes.left (Writes.right (Writes.left (Writes.whole _)))))
    · exact (Writes.left (Writes.left (Writes.right (Writes.right (Writes.left (Writes.whole _))))))
    · exact (Writes.left (Writes.left (Writes.right (Writes.right (Writes.right (Writes.left (Writes.whole _)))))))
    · exact (Writes.left (Writes.left (Writes.right (Writes.right (Writes.right (Writes.right (Writes.whole _)))))))
  intro R hR
  exact (safe_body defs₀ Variants.none c Set.univ R (grid0.coords t) _ _ _ _ _ _ _ _ _ _ _ _ _ _ _ _ _ _ _ _ _ _ _ _ _ _ _ _ _ _ _ _
    _ _ _ _ hR).keep

set_option backward.isDefEq.respectTransparency.types false in
set_option maxHeartbeats 4000000 in
/-- Over any float values, from any memory with the counters at zero: the program ends, with every argument array as it was
    and every counter at zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_frame_forget (Q' := _) cfgs (dats m) (0 : Fin 1) launch0 defs₀ Variants.none (fun _ => true) m ρ main
    (hbody := fun c => body_obligation c _ (fun _ => rfl) (fun _ => rfl)) (hshare := fun c => (dats m 0 c).share_full fun _ => rfl)
    (howed := fun _ _ => rfl) (V := V m) (hmain := hmain m Variants.none) (hA := fun _ _ => rfl) (hΦ := fun _ _ => rfl)
    (hQ' := fun _ h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c),
      (h.1.arr_in c 6 rfl).trans (V_main_arg6 m c),
      (h.1.arr_in c 7 rfl).trans (V_main_arg7 m c),
      (h.1.arr_in c 8 rfl).trans (V_main_arg8 m c),
      (h.1.arr_in c 9 rfl).trans (V_main_arg9 m c),
      (h.1.arr_in c 10 rfl).trans (V_main_arg10 m c)⟩, h.2⟩)

end Cert.KernelIdeal.Hand

end
-- ==== Proof.Rows.lean ====
/-
  The mathematics of one row of the layer's dense sub-layers over the ideal values: a row is a function of the lane, a weight
  a function of two. `Proof/TailKernel.lean` and `Proof/FfnKernel.lean` read the kernels' vectors as these functions of their
  rows, `Proof/TailReference.lean` and `Proof/FfnReference.lean` the references' arrays; both sides then are the same row of
  the same inputs.
-/
module

public import Idealize.ShloMosaic.Lib.Pointwise

@[expose] public section

noncomputable section

namespace Cert.Rows

open Idealize.ShloMosaic

/-- A row scaled by the reciprocal root of its mean square (the sum of squares over the count `cnt`, plus the layer's
    epsilon) and by a gain. -/
def rms {n : ℕ} (cnt : EReal) (x g : Fin n → EReal) (j : Fin n) : EReal :=
  x j * Ideal.rsqrt (Ideal.div (∑ k, x k * x k) cnt + Ideal.ofBits .f32 0x358637BD#32) * g j

/-- A row of 1024 normalised, its mean taken over 1024. -/
def rms1024 (x g : Fin 1024 → EReal) : Fin 1024 → EReal := rms (Ideal.ofBits .f32 0x44800000#32) x g

/-- A row of 512 normalised, its mean taken over 512. -/
def rms512 (x g : Fin 512 → EReal) : Fin 512 → EReal := rms (Ideal.ofBits .f32 0x44000000#32) x g

/-- The logistic function as the quotient both programs write. -/
def sig (x : EReal) : EReal := Ideal.div 1 (1 + Ideal.exp (-x))

/-- A row times a matrix. -/
def mm {k n : ℕ} (h : Fin k → EReal) (w : Fin k → Fin n → EReal) (j : Fin n) : EReal := ∑ l, h l * w l j

/-- The sub-layer's input: the row normalised, scaled by one plus the scale row, plus the shift row. -/
def adaPre (x g scale shift : Fin 1024 → EReal) (j : Fin 1024) : EReal := rms1024 x g j * (1 + scale j) + shift j

/-- The row between the channel mixer's two products: the first half's `x · sig x` times the second half. -/
def act (gu : Fin 5632 → EReal) (l : Fin 2816) : EReal :=
  gu ⟨l.val, by omega⟩ * sig (gu ⟨l.val, by omega⟩) * gu ⟨2816 + l.val, by omega⟩

/-- The residual step of the channel mixer: half the gate row times the normalised output row, added. -/
def halfPost (x y gate g : Fin 1024 → EReal) (j : Fin 1024) : EReal :=
  x j + Ideal.ofBits .f32 0x3F000000#32 * gate j * rms1024 y g j

/-- One row of the half-step channel mixer, from the row, the three modulation rows, the two gains and the two weights. -/
def ffn (x shift scale gate gpre gpost : Fin 1024 → EReal) (win : Fin 1024 → Fin 5632 → EReal)
    (wout : Fin 2816 → Fin 1024 → EReal) : Fin 1024 → EReal :=
  halfPost x (mm (act (mm (adaPre x gpre scale shift) win)) wout) gate gpost

/-- The recurrence branch's row: the scan's output normalised, times `x · sig x` of its gate lanes. -/
def branch (oh ghn : Fin 512 → EReal) (g : Fin 2560 → EReal) (l : Fin 512) : EReal :=
  rms512 oh ghn l * (g ⟨l.val, by omega⟩ * sig (g ⟨l.val, by omega⟩))

/-- The two branches' projections merged by their gates: lanes 512… of the gate row gate attention, lanes 1536… the
    recurrence. -/
def merge (g : Fin 2560 → EReal) (oa r : Fin 512 → EReal) (woa woh : Fin 512 → Fin 1024 → EReal) (j : Fin 1024) : EReal :=
  sig (g ⟨512 + j.val, by omega⟩) * mm oa woa j + sig (g ⟨1536 + j.val, by omega⟩) * mm r woh j

/-- The mixing sub-layer's residual step. -/
def post (x y gate g : Fin 1024 → EReal) (j : Fin 1024) : EReal := x j + gate j * rms1024 y g j

/-- One row of the merge of the two mixers, their output projection and its residual step. -/
def mix (x shift scale gate gpre gpost : Fin 1024 → EReal) (ghn oa oh : Fin 512 → EReal) (wg : Fin 1024 → Fin 2560 → EReal)
    (woa woh : Fin 512 → Fin 1024 → EReal) (wout : Fin 1024 → Fin 1024 → EReal) : Fin 1024 → EReal :=
  post x (mm (merge (mm (adaPre x gpre scale shift) wg) oa (branch oh ghn (mm (adaPre x gpre scale shift) wg)) woa woh) wout)
    gate gpost

end Cert.Rows

end
-- ==== Proof.TailKernel.lean ====
/-
  What one grid point of `merge_ffn` computes, over the ideal values, a row at a time: each payload of the body, read at an
  index, is a function of the rows it loads (`Proof/Rows.lean`). The body treats its 512 rows as two parts of 256, the
  second part's chain cut at other places than the first's; both chains come to the same row function.
-/
module

public import proofs.«01_k».proof.Proof.Gen.Kernel2Ideal.Skeleton
public import proofs.«01_k».proof.Proof.Rows
public import Idealize.ShloMosaic.Lib.Pointwise

@[expose] public section

noncomputable section

namespace Cert.Kernel2Ideal.Hand

open Cert.Kernel2Ideal Cert.Kernel2Ideal.Gen Idealize.ShloMosaic Idealize.ShloMosaic.Tactic
open Cert.Rows

/-! ## The first part's chain -/

/-- The gate projection of a row. -/
theorem gates_first (x : Vec Ideal S256x1024 .f32) (g : Vec Ideal S1x1024 .f32) (scale shift : Vec Ideal S1x1x1024 .f32)
    (w : Vec Ideal S1024x2560 .bf16) (r : Fin 256) (j : Fin 2560) :
    k0_pay2 x g scale shift w (ix2 r j) = mm (adaPre (fun k => x (ix2 r k)) (fun k => g (ix2 0 k))
      (fun k => scale (ix3 0 0 k)) (fun k => shift (ix3 0 0 k))) (fun k j => w (ix2 k j)) j := by
  pointwise [k0_pay2]
  rfl

/-- The recurrence branch's row. -/
theorem branch_first (oh : Vec Ideal S256x512 .f32) (ghn : Vec Ideal S1x512 .f32) (g : FVec Ideal S256x2560 .f32)
    (r : Fin 256) (l : Fin 512) :
    k0_pay10 (k0_pay6 oh ghn) (k0_pay7 g) (k0_pay8 g) k0_pay9 (ix2 r l)
      = branch (fun k => oh (ix2 r k)) (fun k => ghn (ix2 0 k)) (fun k => g (ix2 r k)) l := by
  pointwise [k0_pay10, k0_pay6, k0_pay7, k0_pay8, k0_pay9]
  simp only [zero_sub]
  rfl

/-- The merged row. -/
theorem merge_first (g : FVec Ideal S256x2560 .f32) (oa : Vec Ideal S256x512 .bf16) (rr : FVec Ideal S256x512 .bf16)
    (woa woh : Vec Ideal S512x1024 .bf16) (r : Fin 256) (j : Fin 1024) :
    k0_pay14 rr (k0_pay12 g oa woa) (k0_pay13 g) woh (ix2 r j)
      = merge (fun k => g (ix2 r k)) (fun k => oa (ix2 r k)) (fun k => rr (ix2 r k)) (fun k j => woa (ix2 k j))
          (fun k j => woh (ix2 k j)) j := by
  pointwise [k0_pay14, k0_pay12, k0_pay13]
  simp only [zero_sub]
  rfl

/-- The row after the mixing sub-layer's residual step. -/
theorem post_first (x : Vec Ideal S256x1024 .f32) (z : FVec Ideal S256x1024 .bf16) (gate : Vec Ideal S1x1x1024 .f32)
    (wout : Vec Ideal S1024x1024 .bf16) (g : Vec Ideal S1x1024 .f32) (r : Fin 256) (j : Fin 1024) :
    k0_pay16 x z gate wout g (ix2 r j)
      = post (fun k => x (ix2 r k)) (mm (fun k => z (ix2 r k)) (fun k j => wout (ix2 k j))) (fun k => gate (ix3 0 0 k))
          (fun k => g (ix2 0 k)) j := by
  pointwise [k0_pay16]
  rfl

/-- The channel mixer's input row. -/
theorem pre_first (x : FVec Ideal S256x1024 .f32) (g : Vec Ideal S1x1024 .f32) (scale shift : Vec Ideal S1x1x1024 .f32)
    (r : Fin 256) (j : Fin 1024) :
    k0_pay18 x g scale shift (ix2 r j) = adaPre (fun k => x (ix2 r k)) (fun k => g (ix2 0 k))
      (fun k => scale (ix3 0 0 k)) (fun k => shift (ix3 0 0 k)) j := by
  pointwise [k0_pay18]
  rfl

/-- The channel mixer's output row. -/
theorem swiglu_first (h : FVec Ideal S256x1024 .bf16) (win : Vec Ideal S1024x5632 .bf16) (wo : Vec Ideal S2816x1024 .bf16)
    (r : Fin 256) (j : Fin 1024) :
    k0_pay23 h win wo (ix2 r j)
      = mm (act (mm (fun k => h (ix2 r k)) (fun k j => win (ix2 k j)))) (fun k j => wo (ix2 k j)) j := by
  pointwise [k0_pay23]
  simp only [zero_sub]
  rfl

/-- The row written. -/
theorem out_first (x y : FVec Ideal S256x1024 .f32) (gate : Vec Ideal S1x1x1024 .f32) (g : Vec Ideal S1x1024 .f32)
    (r : Fin 256) (j : Fin 1024) :
    k0_pay24 x y gate g (ix2 r j)
      = halfPost (fun k => x (ix2 r k)) (fun k => y (ix2 r k)) (fun k => gate (ix3 0 0 k)) (fun k => g (ix2 0 k)) j := by
  pointwise [k0_pay24]
  rfl

/-! ## The second part's chain -/

/-- The gate projection of a row. -/
theorem gates_second (x : Vec Ideal S256x1024 .f32) (g : Vec Ideal S1x1024 .f32) (scale shift : Vec Ideal S1x1x1024 .f32)
    (w : Vec Ideal S1024x2560 .bf16) (r : Fin 256) (j : Fin 2560) :
    k0_pay5 x g (k0_pay3 x) k0_pay4 scale shift w (ix2 r j) = mm (adaPre (fun k => x (ix2 r k)) (fun k => g (ix2 0 k))
      (fun k => scale (ix3 0 0 k)) (fun k => shift (ix3 0 0 k))) (fun k j => w (ix2 k j)) j := by
  pointwise [k0_pay5, k0_pay3, k0_pay4]
  rfl

/-- The recurrence branch's row. -/
theorem branch_second (oh : Vec Ideal S256x512 .f32) (ghn : Vec Ideal S1x512 .f32) (g : FVec Ideal S256x2560 .f32)
    (r : Fin 256) (l : Fin 512) :
    k0_pay11 g oh ghn (ix2 r l)
      = branch (fun k => oh (ix2 r k)) (fun k => ghn (ix2 0 k)) (fun k => g (ix2 r k)) l := by
  pointwise [k0_pay11]
  simp only [zero_sub]
  rfl

/-- The merged row. -/
theorem merge_second (g : FVec Ideal S256x2560 .f32) (oa : Vec Ideal S256x512 .bf16) (rr : FVec Ideal S256x512 .bf16)
    (woa woh : Vec Ideal S512x1024 .bf16) (r : Fin 256) (j : Fin 1024) :
    k0_pay15 g rr oa woa woh (ix2 r j)
      = merge (fun k => g (ix2 r k)) (fun k => oa (ix2 r k)) (fun k => rr (ix2 r k)) (fun k j => woa (ix2 k j))
          (fun k j => woh (ix2 k j)) j := by
  pointwise [k0_pay15]
  simp only [zero_sub]
  rfl

/-- The row after the mixing sub-layer's residual step. -/
theorem post_second (x : Vec Ideal S256x1024 .f32) (z : FVec Ideal S256x1024 .bf16) (gate : Vec Ideal S1x1x1024 .f32)
    (wout : Vec Ideal S1024x1024 .bf16) (g : Vec Ideal S1x1024 .f32) (r : Fin 256) (j : Fin 1024) :
    k0_pay17 x z gate wout g (ix2 r j)
      = post (fun k => x (ix2 r k)) (mm (fun k => z (ix2 r k)) (fun k j => wout (ix2 k j))) (fun k => gate (ix3 0 0 k))
          (fun k => g (ix2 0 k)) j := by
  pointwise [k0_pay17]
  rfl

/-- The row between the channel mixer's two products. -/
theorem act_second (x : FVec Ideal S256x1024 .f32) (g : Vec Ideal S1x1024 .f32) (scale shift : Vec Ideal S1x1x1024 .f32)
    (win : Vec Ideal S1024x5632 .bf16) (r : Fin 256) (l : Fin 2816) :
    k0_pay22 (k0_pay19 x g) (k0_pay20 scale) k0_pay21 shift win (ix2 r l)
      = act (mm (adaPre (fun k => x (ix2 r k)) (fun k => g (ix2 0 k)) (fun k => scale (ix3 0 0 k))
          (fun k => shift (ix3 0 0 k))) (fun k j => win (ix2 k j))) l := by
  pointwise [k0_pay22, k0_pay19, k0_pay20, k0_pay21]
  simp only [zero_sub]
  rfl

/-- The row written. -/
theorem out_second (x : FVec Ideal S256x1024 .f32) (a : FVec Ideal S256x2816 .bf16) (wo : Vec Ideal S2816x1024 .bf16)
    (gate : Vec Ideal S1x1x1024 .f32) (g : Vec Ideal S1x1024 .f32) (r : Fin 256) (j : Fin 1024) :
    k0_pay1 x (k0_pay25 gate) (k0_pay26 a wo (constant S256x1024 .f32 0x00000000#32) g) (ix2 r j)
      = halfPost (fun k => x (ix2 r k)) (mm (fun k => a (ix2 r k)) (fun k j => wo (ix2 k j))) (fun k => gate (ix3 0 0 k))
          (fun k => g (ix2 0 k)) j := by
  pointwise [k0_pay1, k0_pay25, k0_pay26]
  rfl

end Cert.Kernel2Ideal.Hand

end
-- ==== Proof.TailBlock.lean ====
/-
  The block one grid point of `merge_ffn` leaves, over the ideal values: row `r` of it is the layer's merge and channel
  mixer of row `r` of the blocks it read (`Proof/Rows.lean`).
-/
module

public import proofs.«01_k».proof.Proof.TailKernel
public import proofs.«01_k».proof.Proof.Gen.Kernel2Ideal.Frame
public import Idealize.ShloMosaic.Lib.Pipeline.ValueKit.Tiles

@[expose] public section

noncomputable section

namespace Cert.Kernel2Ideal.Hand

open Cert.Kernel2Ideal Cert.Kernel2Ideal.Gen Idealize.ShloMosaic Idealize.ShloMosaic.Tactic
open Cert.Rows

/-- The row `merge_ffn` writes, from the rows it reads: `mod` is the batch's nine modulation rows, `pre` and `gains` the
    three gain rows before and after the sub-layers. -/
def tailRow (x : Fin 1024 → EReal) (mod : Fin 9 → Fin 1024 → EReal) (pre gains : Fin 3 → Fin 1024 → EReal)
    (ghn oa oh : Fin 512 → EReal) (wg : Fin 1024 → Fin 2560 → EReal) (woa woh : Fin 512 → Fin 1024 → EReal)
    (wout : Fin 1024 → Fin 1024 → EReal) (win : Fin 1024 → Fin 5632 → EReal) (wo : Fin 2816 → Fin 1024 → EReal) :
    Fin 1024 → EReal :=
  ffn (mix x (mod 3) (mod 4) (mod 5) (pre 1) (gains 1) ghn oa oh wg woa woh wout) (mod 6) (mod 7) (mod 8) (pre 2) (gains 2)
    win wo

section
variable (x0 : Vec Ideal S512x1024 .f32) (x1 : Vec Ideal S1x9x1024 .f32) (x2 x3 : Vec Ideal S3x1024 .f32)
  (x4 : Vec Ideal S1x512 .f32) (x5 : Vec Ideal S512x512 .bf16) (x6 : Vec Ideal S512x512 .f32)
  (x7 : Vec Ideal S1024x2560 .bf16) (x8 x9 : Vec Ideal S512x1024 .bf16) (x10 : Vec Ideal S1024x1024 .bf16)
  (x11 : Vec Ideal S1024x5632 .bf16) (x12 : Vec Ideal S2816x1024 .bf16)

/-- The row function at row `r` of the blocks. -/
def blockRow (r : Fin 512) : Fin 1024 → EReal :=
  tailRow (fun k => x0 (ix2 r k)) (fun a k => x1 (ix3 0 a k)) (fun a k => x2 (ix2 a k)) (fun a k => x3 (ix2 a k))
    (fun k => x4 (ix2 0 k)) (fun k => x5 (ix2 r k)) (fun k => x6 (ix2 r k)) (fun k j => x7 (ix2 k j))
    (fun k j => x8 (ix2 k j)) (fun k j => x9 (ix2 k j)) (fun k j => x10 (ix2 k j)) (fun k j => x11 (ix2 k j))
    (fun k j => x12 (ix2 k j))

/-- A load through a rectangle of a rank-2 block, at coordinates. -/
theorem ld2 {n0 n1 k0 k1 : ℕ} {e : EltTy} (X : Vec Ideal ⟨2, ![n0, n1]⟩ e) (o0 o1 : ℕ)
    (inb : ∀ a, (![o0, o1] : Fin 2 → ℕ) a + (![k0, k1] : Fin 2 → ℕ) a ≤ (![n0, n1] : Fin 2 → ℕ) a) (r : Fin k0) (l : Fin k1)
    (r' : Fin n0) (l' : Fin n1) (hr : r'.val = o0 + r.val) (hl : l'.val = o1 + l.val) :
    View.ld (Val := Elt Ideal) X (Rect.unit (s := ⟨2, ![n0, n1]⟩) ![o0, o1] ![k0, k1] inb) (ix2 r l) = X (ix2 r' l') := by
  refine View.ld_unit_apply_of X _ _ _ _ _ fun a => ?_
  fin_cases a
  · exact hr
  · exact hl

/-- A load of one modulation row, at a lane. -/
theorem ld3 {e : EltTy} (X : Vec Ideal S1x9x1024 e) (o : ℕ)
    (inb : ∀ a, (![0, o, 0] : Fin 3 → ℕ) a + (![1, 1, 1024] : Fin 3 → ℕ) a ≤ (![1, 9, 1024] : Fin 3 → ℕ) a) (k : Fin 1024)
    (i : Fin 9) (hi : i.val = o) :
    View.ld (Val := Elt Ideal) X (Rect.unit (s := S1x9x1024) ![0, o, 0] ![1, 1, 1024] inb) (ix3 0 0 k) = X (ix3 0 i k) := by
  refine View.ld_unit_apply_of X _ _ _ _ _ fun a => ?_
  fin_cases a
  · rfl
  · exact hi
  · exact (Nat.zero_add _).symm

/-- The loads that both parts of the rows make, at coordinates. -/
theorem ld_pre1 (k : Fin 1024) : View.ld (Val := Elt Ideal) x2 r0_2 (ix2 0 k) = x2 (ix2 1 k) :=
  ld2 x2 1 0 _ 0 k 1 k rfl (Nat.zero_add _).symm
theorem ld_pre2 (k : Fin 1024) : View.ld (Val := Elt Ideal) x2 r0_12 (ix2 0 k) = x2 (ix2 2 k) :=
  ld2 x2 2 0 _ 0 k 2 k rfl (Nat.zero_add _).symm
theorem ld_ghn (k : Fin 512) : View.ld (Val := Elt Ideal) x4 r0_7 (ix2 0 k) = x4 (ix2 0 k) :=
  ld2 x4 0 0 _ 0 k 0 k rfl (Nat.zero_add _).symm
theorem ld_wg (k : Fin 1024) (j : Fin 2560) : View.ld (Val := Elt Ideal) x7 r0_5 (ix2 k j) = x7 (ix2 k j) :=
  ld2 x7 0 0 _ k j k j (Nat.zero_add _).symm (Nat.zero_add _).symm
theorem ld_wo2 (k : Fin 512) (j : Fin 1024) : View.ld (Val := Elt Ideal) x8 r0_9 (ix2 k j) = x8 (ix2 k j) :=
  ld2 x8 0 0 _ k j k j (Nat.zero_add _).symm (Nat.zero_add _).symm
theorem ld_wout (k j : Fin 1024) : View.ld (Val := Elt Ideal) x10 r0_11 (ix2 k j) = x10 (ix2 k j) :=
  ld2 x10 0 0 _ k j k j (Nat.zero_add _).symm (Nat.zero_add _).symm
theorem ld_win (k : Fin 1024) (j : Fin 5632) : View.ld (Val := Elt Ideal) x11 r0_15 (ix2 k j) = x11 (ix2 k j) :=
  ld2 x11 0 0 _ k j k j (Nat.zero_add _).symm (Nat.zero_add _).symm
theorem ld_wo (k : Fin 2816) (j : Fin 1024) : View.ld (Val := Elt Ideal) x12 r0_16 (ix2 k j) = x12 (ix2 k j) :=
  ld2 x12 0 0 _ k j k j (Nat.zero_add _).symm (Nat.zero_add _).symm
theorem ld_mod3 (k : Fin 1024) : View.ld (Val := Elt Ideal) x1 r0_4 (ix3 0 0 k) = x1 (ix3 0 3 k) := ld3 x1 3 _ k 3 rfl
theorem ld_mod4 (k : Fin 1024) : View.ld (Val := Elt Ideal) x1 r0_3 (ix3 0 0 k) = x1 (ix3 0 4 k) := ld3 x1 4 _ k 4 rfl
theorem ld_mod5 (k : Fin 1024) : View.ld (Val := Elt Ideal) x1 r0_10 (ix3 0 0 k) = x1 (ix3 0 5 k) := ld3 x1 5 _ k 5 rfl
theorem ld_mod6 (k : Fin 1024) : View.ld (Val := Elt Ideal) x1 r0_14 (ix3 0 0 k) = x1 (ix3 0 6 k) := ld3 x1 6 _ k 6 rfl
theorem ld_mod7 (k : Fin 1024) : View.ld (Val := Elt Ideal) x1 r0_13 (ix3 0 0 k) = x1 (ix3 0 7 k) := ld3 x1 7 _ k 7 rfl
theorem ld_mod8 (k : Fin 1024) : View.ld (Val := Elt Ideal) x1 r0_17 (ix3 0 0 k) = x1 (ix3 0 8 k) := ld3 x1 8 _ k 8 rfl

/-- Row `r` of the block a grid point leaves. -/
theorem out_row (r : Fin 512) (j : Fin 1024) :
    out0_13 x0 x1 x2 x3 x4 x5 x6 x7 x8 x9 x10 x11 x12 (ix2 r j) = blockRow x0 x1 x2 x3 x4 x5 x6 x7 x8 x9 x10 x11 x12 r j := by
  unfold_out out0_13
  refine View.canon_eq_of_allAt _ _ _ (cover0_13 _ _ _) (View.allAt_cons_unit _ _ _ _ _ (fun x hx => ?_)
    (View.allAt_cons_unit _ _ _ _ _ (fun x hx => ?_) (View.allAt_nil _ _)))
  · obtain ⟨q, l, rfl⟩ : ∃ (q : Fin 256) (l : Fin 1024), x = ix2 q l := ⟨x 0, x 1, by funext a; fin_cases a <;> rfl⟩
    have h0 : r.val = 256 + q.val := hx 0
    have h1 : j.val = 0 + l.val := hx 1
    obtain rfl : j = l := Fin.ext (by omega)
    have e0 (k : Fin 1024) : View.ld (Val := Elt Ideal) x0 r0_1 (ix2 q k) = x0 (ix2 r k) :=
      ld2 x0 256 0 _ q k r k h0 (Nat.zero_add _).symm
    have e5 (k : Fin 512) : View.ld (Val := Elt Ideal) x5 r0_8 (ix2 q k) = x5 (ix2 r k) :=
      ld2 x5 256 0 _ q k r k h0 (Nat.zero_add _).symm
    have e6 (k : Fin 512) : View.ld (Val := Elt Ideal) x6 r0_8 (ix2 q k) = x6 (ix2 r k) :=
      ld2 x6 256 0 _ q k r k h0 (Nat.zero_add _).symm
    simp only [out_second, act_second, post_second, merge_second, branch_second, gates_second, e0, e5, e6, ld_pre1 x2,
      ld_pre2 x2, ld_ghn x4, ld_wg x7, ld_wo2 x8, ld_wo2 x9, ld_pre1 x3, ld_pre2 x3, ld_wout x10, ld_win x11, ld_wo x12,
      ld_mod3 x1, ld_mod4 x1, ld_mod5 x1, ld_mod6 x1, ld_mod7 x1, ld_mod8 x1]
    rfl
  · obtain ⟨q, l, rfl⟩ : ∃ (q : Fin 256) (l : Fin 1024), x = ix2 q l := ⟨x 0, x 1, by funext a; fin_cases a <;> rfl⟩
    have h0 : r.val = 0 + q.val := hx 0
    have h1 : j.val = 0 + l.val := hx 1
    obtain rfl : j = l := Fin.ext (by omega)
    have e0 (k : Fin 1024) : View.ld (Val := Elt Ideal) x0 r0_0 (ix2 q k) = x0 (ix2 r k) :=
      ld2 x0 0 0 _ q k r k h0 (Nat.zero_add _).symm
    have e5 (k : Fin 512) : View.ld (Val := Elt Ideal) x5 r0_6 (ix2 q k) = x5 (ix2 r k) :=
      ld2 x5 0 0 _ q k r k h0 (Nat.zero_add _).symm
    have e6 (k : Fin 512) : View.ld (Val := Elt Ideal) x6 r0_6 (ix2 q k) = x6 (ix2 r k) :=
      ld2 x6 0 0 _ q k r k h0 (Nat.zero_add _).symm
    simp only [out_first, swiglu_first, pre_first, post_first, merge_first, branch_first, gates_first, e0, e5, e6, ld_pre1
      x2, ld_pre2 x2, ld_ghn x4, ld_wg x7, ld_wo2 x8, ld_wo2 x9, ld_pre1 x3, ld_pre2 x3, ld_wout x10, ld_win x11, ld_wo
      x12, ld_mod3 x1, ld_mod4 x1, ld_mod5 x1, ld_mod6 x1, ld_mod7 x1, ld_mod8 x1]
    rfl

end

end Cert.Kernel2Ideal.Hand

end
-- ==== Proof.TailValue.lean ====
/-
  The value of `merge_ffn` over the ideal values: its result array is, row by row, the layer's merge and channel mixer of the
  argument arrays (`tailArr`). Each grid point writes 512 rows of it, and a batch of 2048 rows shares its modulation rows.
-/
module

public import proofs.«01_k».proof.Proof.TailBlock
public import proofs.«01_k».proof.Proof.Gen.Kernel2Ideal.Value
public import Idealize.ShloMosaic.Lib.Pipeline.ValueKit.Geometry

@[expose] public section

noncomputable section

namespace Cert.Kernel2Ideal.Hand

open Cert.Kernel2Ideal Cert.Kernel2Ideal.Gen Idealize.ShloMosaic Idealize.ShloMosaic.TcCoe Idealize.ShloMosaic.Tactic
open Idealize.SL Idealize.SL.Sem
open Cert.Rows

/-- The batch of a row: 2048 rows each. -/
def batch (r : Fin 32768) : Fin 24 := ⟨r.val / 2048, by omega⟩

/-- The result array of `merge_ffn`, from its argument arrays. -/
def tailArr (a0 : Vec Ideal S32768x1024 .f32) (a1 : Vec Ideal S24x9x1024 .f32) (a2 a3 : Vec Ideal S3x1024 .f32)
    (a4 : Vec Ideal S1x512 .f32) (a5 : Vec Ideal S32768x512 .bf16) (a6 : Vec Ideal S32768x512 .f32)
    (a7 : Vec Ideal S1024x2560 .bf16) (a8 a9 : Vec Ideal S512x1024 .bf16) (a10 : Vec Ideal S1024x1024 .bf16)
    (a11 : Vec Ideal S1024x5632 .bf16) (a12 : Vec Ideal S2816x1024 .bf16) (r : Fin 32768) : Fin 1024 → EReal :=
  tailRow (fun k => a0 (ix2 r k)) (fun a k => a1 (ix3 (batch r) a k)) (fun a k => a2 (ix2 a k)) (fun a k => a3 (ix2 a k))
    (fun k => a4 (ix2 0 k)) (fun k => a5 (ix2 r k)) (fun k => a6 (ix2 r k)) (fun k j => a7 (ix2 k j))
    (fun k j => a8 (ix2 k j)) (fun k j => a9 (ix2 k j)) (fun k j => a10 (ix2 k j)) (fun k j => a11 (ix2 k j))
    (fun k j => a12 (ix2 k j))

variable (m : (ℓ : Loc nD τ sig) → Buf (Elt Ideal) ℓ) (c : Dev nD)

/-! ## The windows' blocks: 512 rows a point, the point's batch of the modulation, the whole of everything else -/

theorem e0 : ∀ t : Fin cfg0.N, win0_0.index t = ![t.val, 0] := (by decide +kernel : ∀ t : Fin grid0.N, _)
theorem e1 : ∀ t : Fin cfg0.N, win0_1.index t = ![t.val / 4, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![t.val, 0] := (by decide +kernel : ∀ t : Fin grid0.N, _)

theorem blk0 (t : Fin cfg0.N) (r : Fin 512) (R : Fin 32768) (hR : R.val = t.val * 512 + r.val) (k : Fin 1024) :
    iblk m c 0 t (ix2 r k) = m ((c : Thread nD τ).loc main_arg0) (ix2 R k) := by
  blk_simp [iblk, e0]
  refine congrArg (m ((c : Thread nD τ).loc main_arg0)) ?_
  blk_ext [e0]

theorem blk1 (t : Fin cfg0.N) (b : Fin 24) (hb : b.val = t.val / 4) (a : Fin 9) (k : Fin 1024) :
    iblk m c 1 t (ix3 0 a k) = m ((c : Thread nD τ).loc main_arg1) (ix3 b a k) := by
  blk_simp [iblk, e1]
  refine congrArg (m ((c : Thread nD τ).loc main_arg1)) ?_
  blk_ext [e1]

theorem blk2 (t : Fin cfg0.N) (a : Fin 3) (k : Fin 1024) :
    iblk m c 2 t (ix2 a k) = m ((c : Thread nD τ).loc main_arg2) (ix2 a k) := by
  blk_simp [iblk, e2]
  refine congrArg (m ((c : Thread nD τ).loc main_arg2)) ?_
  blk_ext [e2]

theorem blk3 (t : Fin cfg0.N) (a : Fin 3) (k : Fin 1024) :
    iblk m c 3 t (ix2 a k) = m ((c : Thread nD τ).loc main_arg3) (ix2 a k) := by
  blk_simp [iblk, e3]
  refine congrArg (m ((c : Thread nD τ).loc main_arg3)) ?_
  blk_ext [e3]

theorem blk4 (t : Fin cfg0.N) (a : Fin 1) (k : Fin 512) :
    iblk m c 4 t (ix2 a k) = m ((c : Thread nD τ).loc main_arg4) (ix2 a k) := by
  blk_simp [iblk, e4]
  refine congrArg (m ((c : Thread nD τ).loc main_arg4)) ?_
  blk_ext [e4]

theorem blk5 (t : Fin cfg0.N) (r : Fin 512) (R : Fin 32768) (hR : R.val = t.val * 512 + r.val) (k : Fin 512) :
    iblk m c 5 t (ix2 r k) = m ((c : Thread nD τ).loc main_arg5) (ix2 R k) := by
  blk_simp [iblk, e5]
  refine congrArg (m ((c : Thread nD τ).loc main_arg5)) ?_
  blk_ext [e5]

theorem blk6 (t : Fin cfg0.N) (r : Fin 512) (R : Fin 32768) (hR : R.val = t.val * 512 + r.val) (k : Fin 512) :
    iblk m c 6 t (ix2 r k) = m ((c : Thread nD τ).loc main_arg6) (ix2 R k) := by
  blk_simp [iblk, e6]
  refine congrArg (m ((c : Thread nD τ).loc main_arg6)) ?_
  blk_ext [e6]

theorem blk7 (t : Fin cfg0.N) (a : Fin 1024) (k : Fin 2560) :
    iblk m c 7 t (ix2 a k) = m ((c : Thread nD τ).loc main_arg7) (ix2 a k) := by
  blk_simp [iblk, e7]
  refine congrArg (m ((c : Thread nD τ).loc main_arg7)) ?_
  blk_ext [e7]

theorem blk8 (t : Fin cfg0.N) (a : Fin 512) (k : Fin 1024) :
    iblk m c 8 t (ix2 a k) = m ((c : Thread nD τ).loc main_arg8) (ix2 a k) := by
  blk_simp [iblk, e8]
  refine congrArg (m ((c : Thread nD τ).loc main_arg8)) ?_
  blk_ext [e8]

theorem blk9 (t : Fin cfg0.N) (a : Fin 512) (k : Fin 1024) :
    iblk m c 9 t (ix2 a k) = m ((c : Thread nD τ).loc main_arg9) (ix2 a k) := by
  blk_simp [iblk, e9]
  refine congrArg (m ((c : Thread nD τ).loc main_arg9)) ?_
  blk_ext [e9]

theorem blk10 (t : Fin cfg0.N) (a : Fin 1024) (k : Fin 1024) :
    iblk m c 10 t (ix2 a k) = m ((c : Thread nD τ).loc main_arg10) (ix2 a k) := by
  blk_simp [iblk, e10]
  refine congrArg (m ((c : Thread nD τ).loc main_arg10)) ?_
  blk_ext [e10]

theorem blk11 (t : Fin cfg0.N) (a : Fin 1024) (k : Fin 5632) :
    iblk m c 11 t (ix2 a k) = m ((c : Thread nD τ).loc main_arg11) (ix2 a k) := by
  blk_simp [iblk, e11]
  refine congrArg (m ((c : Thread nD τ).loc main_arg11)) ?_
  blk_ext [e11]

theorem blk12 (t : Fin cfg0.N) (a : Fin 2816) (k : Fin 1024) :
    iblk m c 12 t (ix2 a k) = m ((c : Thread nD τ).loc main_arg12) (ix2 a k) := by
  blk_simp [iblk, e12]
  refine congrArg (m ((c : Thread nD τ).loc main_arg12)) ?_
  blk_ext [e12]

/-- The row function at the result's argument arrays. -/
abbrev result : Fin 32768 → Fin 1024 → EReal :=
  tailArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- What point `t` leaves at row `r` of its block is the result's row `512 t + r`. -/
theorem point_row (t : Fin cfg0.N) (r : Fin 512) (R : Fin 32768) (hR : R.val = t.val * 512 + r.val) (j : Fin 1024) :
    (dats m 0 c).after 13 t (ix2 r j) = result m c R j := by
  have hb : (batch R).val = t.val / 4 := by show R.val / 2048 = _; omega
  rw [after0_13, out_row]
  unfold blockRow result tailArr
  simp only [blk0 m c t r R hR, blk1 m c t (batch R) hb, blk2 m c, blk3 m c, blk4 m c, blk5 m c t r R hR, blk6 m c t r R hR,
    blk7 m c, blk8 m c, blk9 m c, blk10 m c, blk11 m c, blk12 m c]

/-- The result array, row by row. -/
theorem final : (dats m 0 c).arrAt 13 cfg0.N = fun i : S32768x1024.Idx => result m c (i 0) (i 1) := by
  refine (dats m 0 c).arrAt_eq_of_covers 13 _ (by decide +kernel) fun t hf y => ?_
  obtain ⟨r, j, rfl⟩ : ∃ (r : Fin 512) (j : Fin 1024), y = ix2 r j := ⟨y 0, y 1, by funext a; fin_cases a <;> rfl⟩
  blk_simp
  have hR : t.val * 512 + r.val < 32768 := by
    have h : t.val < 64 := lt_of_lt_of_eq t.isLt (by decide)
    omega
  have H (i : S32768x1024.Idx) (hi : i = ix2 ⟨t.val * 512 + r.val, hR⟩ j) :
      (dats m 0 c).after 13 t (ix2 r j) = result m c (i 0) (i 1) := by
    subst hi; exact point_row m c t r ⟨_, hR⟩ rfl j
  exact H _ (by blk_ext [e13])

end Cert.Kernel2Ideal.Hand

end
-- ==== Proof.TailReference.lean ====
/-
  The value of the plain reference of `merge_ffn` over the ideal values: its result, row by row, is the layer's merge and
  channel mixer of its arguments (`Proof/Rows.lean`). The reference works on batches of 2048 rows; row `s` of batch `b` is
  row `2048 b + s` of the flat arrays.
-/
module

public import proofs.«01_k».proof.Proof.Gen.Reference2Ideal.Run
public import proofs.«01_k».proof.Proof.Rows
public import Idealize.ShloMosaic.Lib.Pointwise

@[expose] public section

noncomputable section

namespace Cert.Reference2Ideal.Hand

open Cert.Reference2Ideal Cert.Reference2Ideal.Value Idealize.ShloMosaic Idealize.ShloMosaic.TcCoe Idealize.ShloMosaic.Tactic
open Idealize.SL Idealize.SL.Sem
open Cert.Rows

variable (V : Valuation τ sig (Elt Ideal))

/-- Row `s` of batch `b` in the flat rows. -/
def flat (b : Fin 16) (s : Fin 2048) : Fin 32768 := ⟨b.val * 2048 + s.val, by omega⟩

/-- A batch's number among the modulation's. -/
def modOf (b : Fin 16) : Fin 24 := ⟨b.val, by omega⟩

/-! ## The arguments as rows -/

/-- A row of the input. -/
abbrev xRow (b : Fin 16) (s : Fin 2048) (k : Fin 1024) : EReal := V (Proc.devRef .tc main_arg0) (ix2 (flat b s) k)
/-- A modulation row of a batch. -/
abbrev modRow (b : Fin 16) (a : Fin 9) (k : Fin 1024) : EReal := V (Proc.devRef .tc main_arg1) (ix3 (modOf b) a k)
/-- A gain before a sub-layer. -/
abbrev preRow (a : Fin 3) (k : Fin 1024) : EReal := V (Proc.devRef .tc main_arg2) (ix2 a k)
/-- A gain after a sub-layer. -/
abbrev postRow (a : Fin 3) (k : Fin 1024) : EReal := V (Proc.devRef .tc main_arg3) (ix2 a k)
/-- The gain of the recurrence's output. -/
abbrev ghnRow (k : Fin 512) : EReal := V (Proc.devRef .tc main_arg4) (ix2 0 k)
/-- A row of attention's output. -/
abbrev oaRow (b : Fin 16) (s : Fin 2048) (k : Fin 512) : EReal := V (Proc.devRef .tc main_arg5) (ix2 (flat b s) k)
/-- A row of the recurrence's output. -/
abbrev ohRow (b : Fin 16) (s : Fin 2048) (k : Fin 512) : EReal := V (Proc.devRef .tc main_arg6) (ix2 (flat b s) k)
/-- The gates' weight. -/
abbrev wg (k : Fin 1024) (j : Fin 2560) : EReal := V (Proc.devRef .tc main_arg7) (ix2 k j)
/-- The projection of attention. -/
abbrev woa (k : Fin 512) (j : Fin 1024) : EReal := V (Proc.devRef .tc main_arg8) (ix2 k j)
/-- The projection of the recurrence. -/
abbrev woh (k : Fin 512) (j : Fin 1024) : EReal := V (Proc.devRef .tc main_arg9) (ix2 k j)
/-- The mixing sub-layer's output projection. -/
abbrev wout (k j : Fin 1024) : EReal := V (Proc.devRef .tc main_arg10) (ix2 k j)
/-- The channel mixer's first weight. -/
abbrev win (k : Fin 1024) (j : Fin 5632) : EReal := V (Proc.devRef .tc main_arg11) (ix2 k j)
/-- The channel mixer's second weight. -/
abbrev wo (k : Fin 2816) (j : Fin 1024) : EReal := V (Proc.devRef .tc main_arg12) (ix2 k j)

/-! ## The intermediate arrays as rows -/

theorem x_row (b : Fin 16) (s : Fin 2048) (k : Fin 1024) : res_main_v0 V (ix3 b s k) = xRow V b s k := by
  pointwise [res_main_v0]
  rfl

theorem oh_row (b : Fin 16) (s : Fin 2048) (k : Fin 512) : res_main_v54 V (ix3 b s k) = ohRow V b s k := by
  pointwise [res_main_v54]
  rfl

/-- The gates' row. -/
abbrev gRow (b : Fin 16) (s : Fin 2048) : Fin 2560 → EReal :=
  mm (adaPre (xRow V b s) (preRow V 1) (modRow V b 4) (modRow V b 3)) (wg V)

theorem gates_row (b : Fin 16) (s : Fin 2048) (j : Fin 2560) : res_main_v50 V (ix3 b s j) = gRow V b s j := by
  pointwise [res_main_v50]
  simp only [x_row]
  rfl

theorem gate_first_row (b : Fin 16) (s : Fin 2048) (j : Fin 512) :
    res_main_v51 V (ix3 b s j) = gRow V b s ⟨j.val, by omega⟩ := by
  pointwise [res_main_v51]
  exact gates_row V b s _

/-- The mixing sub-layer's output row. -/
abbrev yRow (b : Fin 16) (s : Fin 2048) : Fin 1024 → EReal :=
  mm (merge (gRow V b s) (oaRow V b s) (branch (ohRow V b s) (ghnRow V) (gRow V b s)) (woa V) (woh V)) (wout V)

theorem y_row (b : Fin 16) (s : Fin 2048) (j : Fin 1024) : res_main_v91 V (ix3 b s j) = yRow V b s j := by
  pointwise [res_main_v91]
  simp only [gates_row, gate_first_row, oh_row]
  rfl

/-- The row after the mixing sub-layer. -/
abbrev zRow (b : Fin 16) (s : Fin 2048) : Fin 1024 → EReal :=
  mix (xRow V b s) (modRow V b 3) (modRow V b 4) (modRow V b 5) (preRow V 1) (postRow V 1) (ghnRow V) (oaRow V b s)
    (ohRow V b s) (wg V) (woa V) (woh V) (wout V)

theorem z_row (b : Fin 16) (s : Fin 2048) (j : Fin 1024) : res_main_v111 V (ix3 b s j) = zRow V b s j := by
  pointwise [res_main_v111]
  simp only [x_row, y_row]
  rfl

/-- The channel mixer's first product. -/
abbrev guRow (b : Fin 16) (s : Fin 2048) : Fin 5632 → EReal :=
  mm (adaPre (zRow V b s) (preRow V 2) (modRow V b 7) (modRow V b 6)) (win V)

theorem gu_row (b : Fin 16) (s : Fin 2048) (j : Fin 5632) : res_main_v134 V (ix3 b s j) = guRow V b s j := by
  pointwise [res_main_v134]
  simp only [z_row]
  rfl

theorem gu_first_row (b : Fin 16) (s : Fin 2048) (j : Fin 2816) :
    res_main_v135 V (ix3 b s j) = guRow V b s ⟨j.val, by omega⟩ := by
  pointwise [res_main_v135]
  exact gu_row V b s _

theorem d_row (b : Fin 16) (s : Fin 2048) (j : Fin 1024) :
    res_main_v140 V (ix3 b s j) = mm (act (guRow V b s)) (wo V) j := by
  pointwise [res_main_v140]
  simp only [gu_row, gu_first_row]
  rfl

/-- The result's row. -/
abbrev outRow (b : Fin 16) (s : Fin 2048) : Fin 1024 → EReal :=
  ffn (zRow V b s) (modRow V b 6) (modRow V b 7) (modRow V b 8) (preRow V 2) (postRow V 2) (win V) (wo V)

/-- The reference runs to its end, every row of its result is that and its arguments are kept. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (R : Fin 32768) (j : Fin 1024), r.2.mem ((c.tc : Thread nD τ).loc main_v161) (ix2 R j)
        = outRow (StableHlo.launchContents m c) ⟨R.val / 2048, by omega⟩ ⟨R.val % 2048, by omega⟩ j)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)
          ∧ r.2.mem ((c.tc : Thread nD τ).loc main_arg12) = m ((c.tc : Thread nD τ).loc main_arg12) := by
  refine (θ_run defs _ _).mono (fun r h c => ⟨fun R j => ?_, (h c).2⟩) (Value.run m ρ)
  rw [(h c).1]
  pointwise []
  simp only [z_row, d_row]
  rfl

end Cert.Reference2Ideal.Hand

end
-- ==== Proof.Tail.lean ====
/-
  The value claim of `merge_ffn`: from equal arguments the kernel and the reference end with equal results, each the same
  row function of its arguments, row by row.
-/
module

public import proofs.«01_k».proof.Defs
public import proofs.«01_k».proof.Proof.TailValue
public import proofs.«01_k».proof.Proof.TailReference
public import proofs.«01_k».proof.Proof.Gen.Kernel2.Frame

@[expose] public section

noncomputable section

namespace Cert.Tail

open Idealize.ShloMosaic Idealize.ShloMosaic.TcCoe Idealize.ShloMosaic.Tactic Idealize.SL.Sem

/-- The batch and the place in it of a flat row give the row back. -/
theorem flat_eq (R : Fin 32768) :
    Cert.Reference2Ideal.Hand.flat ⟨R.val / 2048, by omega⟩ ⟨R.val % 2048, by omega⟩ = R :=
  Fin.ext (by show R.val / 2048 * 2048 + R.val % 2048 = R.val; omega)

/-- A row of the reference's result is the row function of the flat arguments. -/
theorem outRow_eq (V : Valuation Cert.Reference2Ideal.τ Cert.Reference2Ideal.sig (Elt Ideal)) (R : Fin 32768) :
    Cert.Reference2Ideal.Hand.outRow V ⟨R.val / 2048, by omega⟩ ⟨R.val % 2048, by omega⟩
      = Cert.Kernel2Ideal.Hand.tailArr (V (Proc.devRef .tc Cert.Reference2Ideal.main_arg0)) (V (Proc.devRef .tc Cert.Reference2Ideal.main_arg1))
          (V (Proc.devRef .tc Cert.Reference2Ideal.main_arg2)) (V (Proc.devRef .tc Cert.Reference2Ideal.main_arg3))
          (V (Proc.devRef .tc Cert.Reference2Ideal.main_arg4)) (V (Proc.devRef .tc Cert.Reference2Ideal.main_arg5))
          (V (Proc.devRef .tc Cert.Reference2Ideal.main_arg6)) (V (Proc.devRef .tc Cert.Reference2Ideal.main_arg7))
          (V (Proc.devRef .tc Cert.Reference2Ideal.main_arg8)) (V (Proc.devRef .tc Cert.Reference2Ideal.main_arg9))
          (V (Proc.devRef .tc Cert.Reference2Ideal.main_arg10)) (V (Proc.devRef .tc Cert.Reference2Ideal.main_arg11))
          (V (Proc.devRef .tc Cert.Reference2Ideal.main_arg12)) R := by
  unfold Cert.Reference2Ideal.Hand.outRow Cert.Reference2Ideal.Hand.zRow Cert.Reference2Ideal.Hand.xRow
    Cert.Reference2Ideal.Hand.oaRow Cert.Reference2Ideal.Hand.ohRow
  simp only [flat_eq]
  rfl

/-- The kernel's result and the reference's are equal arrays. -/
theorem algebraic : Cert.algebraic_Kernel2Ideal_Reference2Ideal := by
  intro m g m' g' _ hargs
  refine ⟨fun c => fun i : Cert.Kernel2Ideal.S32768x1024.Idx => Cert.Kernel2Ideal.Hand.result m c (i 0) (i 1), ?_, ?_⟩
  · refine (θ_run Cert.Kernel2Ideal.defs _ _).mono (fun r h c => ⟨(h c).1.trans (Cert.Kernel2Ideal.Hand.final m c), (h c).2⟩)
      (Cert.Kernel2Ideal.Value.run_blocks m g)
  · refine (θ_run Cert.Reference2Ideal.defs _ _).mono (fun r h c => ⟨?_, (h c).2⟩) (Cert.Reference2Ideal.Hand.run_rows m' g')
    obtain ⟨h0, h1, h2, h3, h4, h5, h6, h7, h8, h9, h10, h11, h12⟩ := hargs c
    have key (R : Fin 32768) (j : Fin 1024) : r.2.mem ((c.tc : Thread Cert.Reference2Ideal.nD Cert.Reference2Ideal.τ).loc
        Cert.Reference2Ideal.main_v161) (ix2 R j) = Cert.Kernel2Ideal.Hand.result m c R j := by
      rw [(h c).1 R j, outRow_eq]
      unfold Cert.Kernel2Ideal.Hand.result
      rw [← h0, ← h1, ← h2, ← h3, ← h4, ← h5, ← h6, ← h7, ← h8, ← h9, ← h10, ← h11, ← h12]
    funext i
    obtain ⟨R, j, rfl⟩ : ∃ (R : Fin 32768) (j : Fin 1024), i = ix2 R j := ⟨i 0, i 1, by funext a; fin_cases a <;> rfl⟩
    exact key R j

/-- The reference runs to its end with its arguments kept; it declares no semaphore. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Hand.run_rows m g)

/-- The kernel runs to its end over the ideal values, its arguments and counters kept. -/
theorem frame_ideal : Cert.quiescent_Kernel2Ideal := fun m g _ => Cert.Kernel2Ideal.Gen.frame m g

/-- So it does over the bit-exact ones. -/
theorem frame_bits : Cert.quiescent_Kernel2 := fun m g _ => Cert.Kernel2.Gen.frame m g

end Cert.Tail

end
-- ==== Proof.FfnKernel.lean ====
/-
  What one grid point of `ffn` computes, over the ideal values, a row at a time (`Proof/Rows.lean`). The body treats its 1024
  rows as four parts of 256, each part's chain cut at other places; all four come to the same row function.
-/
module

public import proofs.«01_k».proof.Proof.Gen.Kernel3Ideal.Skeleton
public import proofs.«01_k».proof.Proof.Rows
public import Idealize.ShloMosaic.Lib.Pointwise

@[expose] public section

noncomputable section

namespace Cert.Kernel3Ideal.Hand

open Cert.Kernel3Ideal Cert.Kernel3Ideal.Gen Idealize.ShloMosaic Idealize.ShloMosaic.Tactic
open Cert.Rows

variable (x : Vec Ideal S256x1024 .f32) (g : Vec Ideal S1x1024 .f32) (shift scale gate : Vec Ideal S1x1x1024 .f32)
  (h : FVec Ideal S256x1024 .bf16) (a : FVec Ideal S256x2816 .bf16) (y : FVec Ideal S256x1024 .f32)
  (win : Vec Ideal S1024x5632 .bf16) (wo : Vec Ideal S2816x1024 .bf16) (r : Fin 256)

/-! ## The sub-layer's input row -/

theorem pre_0 (j : Fin 1024) : k0_pay6 shift scale x g (ix2 r j) = adaPre (fun k => x (ix2 r k)) (fun k => g (ix2 0 k))
    (fun k => scale (ix3 0 0 k)) (fun k => shift (ix3 0 0 k)) j := by
  pointwise [k0_pay6, k0_pay3, k0_pay4]
  rfl

theorem pre_1 (j : Fin 1024) : k0_pay8 (k0_pay3 shift) (k0_pay4 scale) x g (k0_pay7 x) (ix2 r j)
    = adaPre (fun k => x (ix2 r k)) (fun k => g (ix2 0 k)) (fun k => scale (ix3 0 0 k)) (fun k => shift (ix3 0 0 k)) j := by
  pointwise [k0_pay8, k0_pay3, k0_pay4, k0_pay7]
  rfl

theorem pre_2 (j : Fin 1024) : k0_pay9 (k0_pay3 shift) (k0_pay4 scale) x g (ix2 r j)
    = adaPre (fun k => x (ix2 r k)) (fun k => g (ix2 0 k)) (fun k => scale (ix3 0 0 k)) (fun k => shift (ix3 0 0 k)) j := by
  pointwise [k0_pay9, k0_pay3, k0_pay4]
  rfl

/-- The last part's first product is printed with its input. -/
theorem gu_3 (j : Fin 5632) : k0_pay13 (k0_pay3 shift) (k0_pay4 scale) x g (k0_pay10 x) win (ix2 r j)
    = mm (adaPre (fun k => x (ix2 r k)) (fun k => g (ix2 0 k)) (fun k => scale (ix3 0 0 k)) (fun k => shift (ix3 0 0 k)))
        (fun k j => win (ix2 k j)) j := by
  pointwise [k0_pay13, k0_pay3, k0_pay4, k0_pay10]
  rfl

/-! ## The row between the products, and the second product -/

theorem act_0 (l : Fin 2816) : k0_pay14 h win (ix2 r l) = act (mm (fun k => h (ix2 r k)) (fun k j => win (ix2 k j))) l := by
  pointwise [k0_pay14]
  simp only [zero_sub]
  rfl

theorem down_1 (j : Fin 1024) : k0_pay18 (k0_pay15 h win) (k0_pay16 h win) wo (ix2 r j)
    = mm (act (mm (fun k => h (ix2 r k)) (fun k j => win (ix2 k j)))) (fun k j => wo (ix2 k j)) j := by
  pointwise [k0_pay18, k0_pay15, k0_pay16, k0_pay11]
  simp only [zero_sub]
  rfl

theorem down_2 (j : Fin 1024) : k0_pay19 (k0_pay12 h win) wo (ix2 r j)
    = mm (act (mm (fun k => h (ix2 r k)) (fun k j => win (ix2 k j)))) (fun k j => wo (ix2 k j)) j := by
  pointwise [k0_pay19, k0_pay12]
  simp only [zero_sub]
  rfl

theorem down_3 (gu : FVec Ideal S256x5632 .f32) (j : Fin 1024) : k0_pay20 gu wo (ix2 r j)
    = mm (act (fun k => gu (ix2 r k))) (fun k j => wo (ix2 k j)) j := by
  pointwise [k0_pay20]
  simp only [zero_sub]
  rfl

/-! ## The row written -/

theorem out_0 (j : Fin 1024) :
    k0_pay23 x (k0_pay17 a wo) (k0_pay21 (k0_pay5 gate)) g (k0_pay22 a wo) (ix2 r j)
      = halfPost (fun k => x (ix2 r k)) (mm (fun k => a (ix2 r k)) (fun k j => wo (ix2 k j))) (fun k => gate (ix3 0 0 k))
          (fun k => g (ix2 0 k)) j := by
  pointwise [k0_pay23, k0_pay17, k0_pay21, k0_pay5, k0_pay22]
  rfl

theorem out_1 (j : Fin 1024) : k0_pay24 (k0_pay5 gate) x y g (ix2 r j)
    = halfPost (fun k => x (ix2 r k)) (fun k => y (ix2 r k)) (fun k => gate (ix3 0 0 k)) (fun k => g (ix2 0 k)) j := by
  pointwise [k0_pay24, k0_pay5]
  rfl

theorem out_2 (j : Fin 1024) :
    k0_pay1 x y (k0_pay25 (k0_pay5 gate)) g (k0_pay26 y) (k0_pay27 (F := Ideal)) (ix2 r j)
      = halfPost (fun k => x (ix2 r k)) (fun k => y (ix2 r k)) (fun k => gate (ix3 0 0 k)) (fun k => g (ix2 0 k)) j := by
  pointwise [k0_pay1, k0_pay25, k0_pay5, k0_pay26, k0_pay27]
  rfl

theorem out_3 (j : Fin 1024) : k0_pay2 (k0_pay5 gate) x y g (ix2 r j)
    = halfPost (fun k => x (ix2 r k)) (fun k => y (ix2 r k)) (fun k => gate (ix3 0 0 k)) (fun k => g (ix2 0 k)) j := by
  pointwise [k0_pay2, k0_pay5]
  rfl

end Cert.Kernel3Ideal.Hand

end
-- ==== Proof.FfnBlock.lean ====
/-
  The block one grid point of `ffn` leaves, over the ideal values: row `r` of it is the half-step channel mixer of row `r` of
  the block it read (`Proof/Rows.lean`).
-/
module

public import proofs.«01_k».proof.Proof.FfnKernel
public import proofs.«01_k».proof.Proof.TailBlock
public import proofs.«01_k».proof.Proof.Gen.Kernel3Ideal.Frame
public import Idealize.ShloMosaic.Lib.Pipeline.ValueKit.Tiles

@[expose] public section

noncomputable section

namespace Cert.Kernel3Ideal.Hand

open Cert.Kernel3Ideal Cert.Kernel3Ideal.Gen Idealize.ShloMosaic Idealize.ShloMosaic.Tactic
open Cert.Rows
open Cert.Kernel2Ideal.Hand (ld2 ld3)

variable (x0 : Vec Ideal S1024x1024 .f32) (x1 : Vec Ideal S1x9x1024 .f32) (x2 x3 : Vec Ideal S1x1024 .f32)
  (x4 : Vec Ideal S1024x5632 .bf16) (x5 : Vec Ideal S2816x1024 .bf16)

/-- The row function at row `r` of the blocks. -/
def blockRow (r : Fin 1024) : Fin 1024 → EReal :=
  ffn (fun k => x0 (ix2 r k)) (fun k => x1 (ix3 0 0 k)) (fun k => x1 (ix3 0 1 k)) (fun k => x1 (ix3 0 2 k))
    (fun k => x2 (ix2 0 k)) (fun k => x3 (ix2 0 k)) (fun k j => x4 (ix2 k j)) (fun k j => x5 (ix2 k j))

/-- The loads that all four parts of the rows make, at coordinates. -/
theorem ld_gain (k : Fin 1024) : View.ld (Val := Elt Ideal) x2 r0_7 (ix2 0 k) = x2 (ix2 0 k) :=
  ld2 x2 0 0 _ 0 k 0 k rfl (Nat.zero_add _).symm
theorem ld_win (k : Fin 1024) (j : Fin 5632) : View.ld (Val := Elt Ideal) x4 r0_8 (ix2 k j) = x4 (ix2 k j) :=
  ld2 x4 0 0 _ k j k j (Nat.zero_add _).symm (Nat.zero_add _).symm
theorem ld_wo (k : Fin 2816) (j : Fin 1024) : View.ld (Val := Elt Ideal) x5 r0_9 (ix2 k j) = x5 (ix2 k j) :=
  ld2 x5 0 0 _ k j k j (Nat.zero_add _).symm (Nat.zero_add _).symm
theorem ld_mod0 (k : Fin 1024) : View.ld (Val := Elt Ideal) x1 r0_0 (ix3 0 0 k) = x1 (ix3 0 0 k) := ld3 x1 0 _ k 0 rfl
theorem ld_mod1 (k : Fin 1024) : View.ld (Val := Elt Ideal) x1 r0_1 (ix3 0 0 k) = x1 (ix3 0 1 k) := ld3 x1 1 _ k 1 rfl
theorem ld_mod2 (k : Fin 1024) : View.ld (Val := Elt Ideal) x1 r0_2 (ix3 0 0 k) = x1 (ix3 0 2 k) := ld3 x1 2 _ k 2 rfl

/-- Row `r` of the block a grid point leaves. -/
theorem out_row (r j : Fin 1024) : out0_6 x0 x1 x2 x3 x4 x5 (ix2 r j) = blockRow x0 x1 x2 x3 x4 x5 r j := by
  unfold_out out0_6
  refine View.canon_eq_of_allAt _ _ _ (cover0_6 _ _ _ _ _) (View.allAt_cons_unit _ _ _ _ _ (fun x hx => ?_)
    (View.allAt_cons_unit _ _ _ _ _ (fun x hx => ?_) (View.allAt_cons_unit _ _ _ _ _ (fun x hx => ?_)
      (View.allAt_cons_unit _ _ _ _ _ (fun x hx => ?_) (View.allAt_nil _ _)))))
  · obtain ⟨q, l, rfl⟩ : ∃ (q : Fin 256) (l : Fin 1024), x = ix2 q l := ⟨x 0, x 1, by funext a; fin_cases a <;> rfl⟩
    have h0 : r.val = 768 + q.val := hx 0
    have h1 : j.val = 0 + l.val := hx 1
    obtain rfl : j = l := Fin.ext (by omega)
    have e (k : Fin 1024) : View.ld (Val := Elt Ideal) x0 r0_6 (ix2 q k) = x0 (ix2 r k) :=
      ld2 x0 768 0 _ q k r k h0 (Nat.zero_add _).symm
    simp only [out_3, down_3, gu_3, e, ld_gain x2, ld_gain x3, ld_win x4, ld_wo x5, ld_mod0 x1, ld_mod1 x1, ld_mod2 x1]
    rfl
  · obtain ⟨q, l, rfl⟩ : ∃ (q : Fin 256) (l : Fin 1024), x = ix2 q l := ⟨x 0, x 1, by funext a; fin_cases a <;> rfl⟩
    have h0 : r.val = 512 + q.val := hx 0
    have h1 : j.val = 0 + l.val := hx 1
    obtain rfl : j = l := Fin.ext (by omega)
    have e (k : Fin 1024) : View.ld (Val := Elt Ideal) x0 r0_5 (ix2 q k) = x0 (ix2 r k) :=
      ld2 x0 512 0 _ q k r k h0 (Nat.zero_add _).symm
    simp only [out_2, down_2, pre_2, e, ld_gain x2, ld_gain x3, ld_win x4, ld_wo x5, ld_mod0 x1, ld_mod1 x1, ld_mod2 x1]
    rfl
  · obtain ⟨q, l, rfl⟩ : ∃ (q : Fin 256) (l : Fin 1024), x = ix2 q l := ⟨x 0, x 1, by funext a; fin_cases a <;> rfl⟩
    have h0 : r.val = 256 + q.val := hx 0
    have h1 : j.val = 0 + l.val := hx 1
    obtain rfl : j = l := Fin.ext (by omega)
    have e (k : Fin 1024) : View.ld (Val := Elt Ideal) x0 r0_4 (ix2 q k) = x0 (ix2 r k) :=
      ld2 x0 256 0 _ q k r k h0 (Nat.zero_add _).symm
    simp only [out_1, down_1, pre_1, e, ld_gain x2, ld_gain x3, ld_win x4, ld_wo x5, ld_mod0 x1, ld_mod1 x1, ld_mod2 x1]
    rfl
  · obtain ⟨q, l, rfl⟩ : ∃ (q : Fin 256) (l : Fin 1024), x = ix2 q l := ⟨x 0, x 1, by funext a; fin_cases a <;> rfl⟩
    have h0 : r.val = 0 + q.val := hx 0
    have h1 : j.val = 0 + l.val := hx 1
    obtain rfl : j = l := Fin.ext (by omega)
    have e (k : Fin 1024) : View.ld (Val := Elt Ideal) x0 r0_3 (ix2 q k) = x0 (ix2 r k) :=
      ld2 x0 0 0 _ q k r k h0 (Nat.zero_add _).symm
    simp only [out_0, act_0, pre_0, e, ld_gain x2, ld_gain x3, ld_win x4, ld_wo x5, ld_mod0 x1, ld_mod1 x1, ld_mod2 x1]
    rfl

end Cert.Kernel3Ideal.Hand

end
-- ==== Proof.FfnValue.lean ====
/-
  The value of `ffn` over the ideal values: its result array is, row by row, the half-step channel mixer of the argument
  arrays (`ffnArr`). Each grid point writes 1024 rows of it, and a batch of 2048 rows shares its modulation rows.
-/
module

public import proofs.«01_k».proof.Proof.FfnBlock
public import proofs.«01_k».proof.Proof.Gen.Kernel3Ideal.Value
public import Idealize.ShloMosaic.Lib.Pipeline.ValueKit.Geometry

@[expose] public section

noncomputable section

namespace Cert.Kernel3Ideal.Hand

open Cert.Kernel3Ideal Cert.Kernel3Ideal.Gen Idealize.ShloMosaic Idealize.ShloMosaic.TcCoe Idealize.ShloMosaic.Tactic
open Idealize.SL Idealize.SL.Sem
open Cert.Rows

/-- The batch of a row: 2048 rows each. -/
def batch (r : Fin 32768) : Fin 24 := ⟨r.val / 2048, by omega⟩

/-- The result array of `ffn`, from its argument arrays. -/
def ffnArr (a0 : Vec Ideal S32768x1024 .f32) (a1 : Vec Ideal S24x9x1024 .f32) (a2 a3 : Vec Ideal S1x1024 .f32)
    (a4 : Vec Ideal S1024x5632 .bf16) (a5 : Vec Ideal S2816x1024 .bf16) (r : Fin 32768) : Fin 1024 → EReal :=
  ffn (fun k => a0 (ix2 r k)) (fun k => a1 (ix3 (batch r) 0 k)) (fun k => a1 (ix3 (batch r) 1 k))
    (fun k => a1 (ix3 (batch r) 2 k)) (fun k => a2 (ix2 0 k)) (fun k => a3 (ix2 0 k)) (fun k j => a4 (ix2 k j))
    (fun k j => a5 (ix2 k j))

variable (m : (ℓ : Loc nD τ sig) → Buf (Elt Ideal) ℓ) (c : Dev nD)

/-! ## The windows' blocks: 1024 rows a point, the point's batch of the modulation, the whole of everything else -/

theorem e0 : ∀ t : Fin cfg0.N, win0_0.index t = ![t.val, 0] := (by decide +kernel : ∀ t : Fin grid0.N, _)
theorem e1 : ∀ t : Fin cfg0.N, win0_1.index t = ![t.val / 2, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)

theorem blk0 (t : Fin cfg0.N) (r : Fin 1024) (R : Fin 32768) (hR : R.val = t.val * 1024 + r.val) (k : Fin 1024) :
    iblk m c 0 t (ix2 r k) = m ((c : Thread nD τ).loc main_arg0) (ix2 R k) := by
  blk_simp [iblk, e0]
  refine congrArg (m ((c : Thread nD τ).loc main_arg0)) ?_
  blk_ext [e0]

theorem blk1 (t : Fin cfg0.N) (b : Fin 24) (hb : b.val = t.val / 2) (a : Fin 9) (k : Fin 1024) :
    iblk m c 1 t (ix3 0 a k) = m ((c : Thread nD τ).loc main_arg1) (ix3 b a k) := by
  blk_simp [iblk, e1]
  refine congrArg (m ((c : Thread nD τ).loc main_arg1)) ?_
  blk_ext [e1]

theorem blk2 (t : Fin cfg0.N) (a : Fin 1) (k : Fin 1024) :
    iblk m c 2 t (ix2 a k) = m ((c : Thread nD τ).loc main_arg2) (ix2 a k) := by
  blk_simp [iblk, e2]
  refine congrArg (m ((c : Thread nD τ).loc main_arg2)) ?_
  blk_ext [e2]

theorem blk3 (t : Fin cfg0.N) (a : Fin 1) (k : Fin 1024) :
    iblk m c 3 t (ix2 a k) = m ((c : Thread nD τ).loc main_arg3) (ix2 a k) := by
  blk_simp [iblk, e3]
  refine congrArg (m ((c : Thread nD τ).loc main_arg3)) ?_
  blk_ext [e3]

theorem blk4 (t : Fin cfg0.N) (a : Fin 1024) (k : Fin 5632) :
    iblk m c 4 t (ix2 a k) = m ((c : Thread nD τ).loc main_arg4) (ix2 a k) := by
  blk_simp [iblk, e4]
  refine congrArg (m ((c : Thread nD τ).loc main_arg4)) ?_
  blk_ext [e4]

theorem blk5 (t : Fin cfg0.N) (a : Fin 2816) (k : Fin 1024) :
    iblk m c 5 t (ix2 a k) = m ((c : Thread nD τ).loc main_arg5) (ix2 a k) := by
  blk_simp [iblk, e5]
  refine congrArg (m ((c : Thread nD τ).loc main_arg5)) ?_
  blk_ext [e5]

/-- The row function at the result's argument arrays. -/
abbrev result : Fin 32768 → Fin 1024 → EReal :=
  ffnArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point `t` leaves at row `r` of its block is the result's row `1024 t + r`. -/
theorem point_row (t : Fin cfg0.N) (r : Fin 1024) (R : Fin 32768) (hR : R.val = t.val * 1024 + r.val) (j : Fin 1024) :
    (dats m 0 c).after 6 t (ix2 r j) = result m c R j := by
  have hb : (batch R).val = t.val / 2 := by show R.val / 2048 = _; omega
  rw [after0_6, out_row]
  unfold blockRow result ffnArr
  simp only [blk0 m c t r R hR, blk1 m c t (batch R) hb, blk2 m c, blk3 m c, blk4 m c, blk5 m c]

/-- The result array, row by row. -/
theorem final : (dats m 0 c).arrAt 6 cfg0.N = fun i : S32768x1024.Idx => result m c (i 0) (i 1) := by
  refine (dats m 0 c).arrAt_eq_of_covers 6 _ (by decide +kernel) fun t hf y => ?_
  obtain ⟨r, j, rfl⟩ : ∃ (r : Fin 1024) (j : Fin 1024), y = ix2 r j := ⟨y 0, y 1, by funext a; fin_cases a <;> rfl⟩
  blk_simp
  have hR : t.val * 1024 + r.val < 32768 := by
    have h : t.val < 32 := lt_of_lt_of_eq t.isLt (by decide)
    omega
  have H (i : S32768x1024.Idx) (hi : i = ix2 ⟨t.val * 1024 + r.val, hR⟩ j) :
      (dats m 0 c).after 6 t (ix2 r j) = result m c (i 0) (i 1) := by
    subst hi; exact point_row m c t r ⟨_, hR⟩ rfl j
  exact H _ (by blk_ext [e6])

end Cert.Kernel3Ideal.Hand

end
-- ==== Proof.FfnReference.lean ====
/-
  The value of the plain reference of `ffn` over the ideal values: its result, row by row, is the half-step channel mixer of
  its arguments (`Proof/Rows.lean`). The reference works on batches of 2048 rows.
-/
module

public import proofs.«01_k».proof.Proof.Gen.Reference3Ideal.Run
public import proofs.«01_k».proof.Proof.Rows
public import Idealize.ShloMosaic.Lib.Pointwise

@[expose] public section

noncomputable section

namespace Cert.Reference3Ideal.Hand

open Cert.Reference3Ideal Cert.Reference3Ideal.Gen Cert.Reference3Ideal.Value Idealize.ShloMosaic Idealize.ShloMosaic.TcCoe Idealize.ShloMosaic.Tactic
open Idealize.SL Idealize.SL.Sem
open Cert.Rows

/-- Row `s` of batch `b` in the flat rows. -/
def flat (b : Fin 16) (s : Fin 2048) : Fin 32768 := ⟨b.val * 2048 + s.val, by omega⟩

/-- The batch and the place in it of a flat row give the row back. -/
theorem flat_eq (R : Fin 32768) : flat ⟨R.val / 2048, by omega⟩ ⟨R.val % 2048, by omega⟩ = R :=
  Fin.ext (by show R.val / 2048 * 2048 + R.val % 2048 = R.val; omega)

/-- A batch's number among the modulation's. -/
def modOf (b : Fin 16) : Fin 24 := ⟨b.val, by omega⟩

variable (x : FVec Ideal S32768x1024 .f32) (md : FVec Ideal S24x9x1024 .f32) (gpre gpost : FVec Ideal S1x1024 .f32)
  (w1 : FVec Ideal S1024x5632 .bf16) (w2 : FVec Ideal S2816x1024 .bf16) (gu : FVec Ideal S16x2048x5632 .f32)
  (y : FVec Ideal S16x2048x1024 .f32) (b : Fin 16) (s : Fin 2048)

/-! ## The two products and the result: their arrays, and the rows of them -/

/-- The first product's array. -/
def guArr : FVec Ideal S16x2048x5632 .f32 :=
  Host.dotGeneral (φ₂ := .bf16) dot_S16x2048x1024_S1024x5632_S16x2048x5632_2_0_01_1_n_n none (truncf .bf16 (addf (mulf
    (mulf (mulf (shapeCast _ x shapeCasts_S32768x1024_S16x2048x1024) (broadcastInDim S16x2048x1024 ![0, 1, 2]
    bcast_S16x2048x1_S16x2048x1024_0_1_2 (Host.rsqrt (addf (Host.divf (broadcastInDim S16x2048x1 ![0, 1]
    bcast_S16x2048_S16x2048x1_0_1 (Host.reduceAdd (mulf (shapeCast _ x shapeCasts_S32768x1024_S16x2048x1024)
    (shapeCast _ x shapeCasts_S32768x1024_S16x2048x1024)) (constant S_ .f32 0x00000000#32)
    reducesTo_S16x2048x1024_S16x2048_d2 h_S_)) (broadcastInDim S16x2048x1 ![] bcast_S_S16x2048x1 (constant S_ .f32
    0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2]
    bcast_S1024_S1x1x1024_2 (shapeCast _ gpre shapeCasts_S1x1024_S1024)))) (broadcastInDim S16x2048x1024 ![0, 1, 2]
    bcast_S16x1x1024_S16x2048x1024_0_1_2 (addf (broadcastInDim S16x1x1024 ![] bcast_S_S16x1x1024 (constant S_ .f32
    0x3F800000#32)) (broadcastInDim S16x1x1024 ![0, 2] bcast_S16x1024_S16x1x1024_0_2 (shapeCast _ (extractStridedSlice
    S16x1x1024 ![0, 1, 0] md slices_S24x9x1024_S16x1x1024_0_1_0) shapeCasts_S16x1x1024_S16x1024))))) (broadcastInDim
    S16x2048x1024 ![0, 1, 2] bcast_S16x1x1024_S16x2048x1024_0_1_2 (broadcastInDim S16x1x1024 ![0, 2]
    bcast_S16x1024_S16x1x1024_0_2 (shapeCast _ (extractStridedSlice S16x1x1024 ![0, 0, 0] md
    slices_S24x9x1024_S16x1x1024_0_0_0) shapeCasts_S16x1x1024_S16x1024)))) bitsLt_bf16_f32) w1

/-- The second product's array, from the first's. -/
def yArr : FVec Ideal S16x2048x1024 .f32 :=
  Host.dotGeneral (φ₂ := .bf16) dot_S16x2048x2816_S2816x1024_S16x2048x1024_2_0_01_1_n_n none (truncf .bf16 (mulf (mulf
    (extractStridedSlice S16x2048x2816 ![0, 0, 0] gu slices_S16x2048x5632_S16x2048x2816_0_0_0) (Host.divf
    (broadcastInDim S16x2048x2816 ![] bcast_S_S16x2048x2816 (constant S_ .f32 0x3F800000#32)) (addf (broadcastInDim
    S16x2048x2816 ![] bcast_S_S16x2048x2816 (constant S_ .f32 0x3F800000#32)) (Host.exp (Host.negf
    (extractStridedSlice S16x2048x2816 ![0, 0, 0] gu slices_S16x2048x5632_S16x2048x2816_0_0_0))))))
    (extractStridedSlice S16x2048x2816 ![0, 0, 2816] gu slices_S16x2048x5632_S16x2048x2816_0_0_2816)) bitsLt_bf16_f32)
    w2

/-- The result's array, from the second product's. -/
def outArr : FVec Ideal S32768x1024 .f32 :=
  shapeCast _ (addf (shapeCast _ x shapeCasts_S32768x1024_S16x2048x1024) (mulf (broadcastInDim S16x2048x1024
    ![0, 1, 2] bcast_S16x1x1024_S16x2048x1024_0_1_2 (mulf (broadcastInDim S16x1x1024 ![] bcast_S_S16x1x1024 (constant
    S_ .f32 0x3F000000#32)) (broadcastInDim S16x1x1024 ![0, 2] bcast_S16x1024_S16x1x1024_0_2 (shapeCast _
    (extractStridedSlice S16x1x1024 ![0, 2, 0] md slices_S24x9x1024_S16x1x1024_0_2_0)
    shapeCasts_S16x1x1024_S16x1024)))) (mulf (mulf y (broadcastInDim S16x2048x1024 ![0, 1, 2]
    bcast_S16x2048x1_S16x2048x1024_0_1_2 (Host.rsqrt (addf (Host.divf (broadcastInDim S16x2048x1 ![0, 1]
    bcast_S16x2048_S16x2048x1_0_1 (Host.reduceAdd (mulf y y) (constant S_ .f32 0x00000000#32)
    reducesTo_S16x2048x1024_S16x2048_d2 h_S_)) (broadcastInDim S16x2048x1 ![] bcast_S_S16x2048x1 (constant S_ .f32
    0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2]
    bcast_S1024_S1x1x1024_2 (shapeCast _ gpost shapeCasts_S1x1024_S1024)))))) shapeCasts_S16x2048x1024_S32768x1024

theorem gu_row (j : Fin 5632) : guArr x md gpre w1 (ix3 b s j)
    = mm (adaPre (fun k => x (ix2 (flat b s) k)) (fun k => gpre (ix2 0 k)) (fun k => md (ix3 (modOf b) 1 k))
        (fun k => md (ix3 (modOf b) 0 k))) (fun k j => w1 (ix2 k j)) j := by
  pointwise [guArr]
  rfl

theorem y_row (j : Fin 1024) :
    yArr w2 gu (ix3 b s j) = mm (act (fun k => gu (ix3 b s k))) (fun k j => w2 (ix2 k j)) j := by
  pointwise [yArr]
  rfl

theorem out_row (R : Fin 32768) (j : Fin 1024) : outArr x md gpost y (ix2 R j)
    = halfPost (fun k => x (ix2 R k))
        (fun k => y (ix3 ⟨R.val / 2048, by omega⟩ ⟨R.val % 2048, by omega⟩ k))
        (fun k => md (ix3 (modOf ⟨R.val / 2048, by omega⟩) 2 k)) (fun k => gpost (ix2 0 k)) j := by
  pointwise [outArr]
  rfl

/-- The result's row: row `s` of batch `b`. -/
abbrev outRow : Fin 1024 → EReal :=
  ffn (fun k => x (ix2 (flat b s) k)) (fun k => md (ix3 (modOf b) 0 k)) (fun k => md (ix3 (modOf b) 1 k))
    (fun k => md (ix3 (modOf b) 2 k)) (fun k => gpre (ix2 0 k)) (fun k => gpost (ix2 0 k)) (fun k j => w1 (ix2 k j))
    (fun k j => w2 (ix2 k j))

/-- Row `R` of the result. -/
theorem result_row (R : Fin 32768) (j : Fin 1024) : outArr x md gpost (yArr w2 (guArr x md gpre w1)) (ix2 R j)
    = outRow x md gpre gpost w1 w2 ⟨R.val / 2048, by omega⟩ ⟨R.val % 2048, by omega⟩ j := by
  rw [out_row]
  unfold outRow
  simp only [y_row, gu_row, flat_eq]
  rfl

variable (m : (ℓ : Loc nD τ sig) → Buf (Elt Ideal) ℓ)

/-- The printed term is those three arrays, one of another. -/
theorem res_eq (c : Dev nD) : res_main_v75 m c
    = outArr (m ((c.tc : Thread nD τ).loc main_arg0)) (m ((c.tc : Thread nD τ).loc main_arg1))
        (m ((c.tc : Thread nD τ).loc main_arg3)) (yArr (m ((c.tc : Thread nD τ).loc main_arg5))
          (guArr (m ((c.tc : Thread nD τ).loc main_arg0)) (m ((c.tc : Thread nD τ).loc main_arg1))
            (m ((c.tc : Thread nD τ).loc main_arg2)) (m ((c.tc : Thread nD τ).loc main_arg4)))) := by
  unfold res_main_v75 outArr yArr guArr
  rfl

/-- The reference runs to its end, every row of its result is that and its arguments are kept. -/
theorem run_rows (ρ : Dev nD → PrngReg) :
    θ_run defs (onTc (τ := τ) (main (F := Ideal))) ⟨m, fun _ => 0, ρ⟩ fun r => ∀ c : Dev nD,
      (∀ (R : Fin 32768) (j : Fin 1024), r.2.mem ((c.tc : Thread nD τ).loc main_v75) (ix2 R j)
        = outRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
            ⟨R.val / 2048, by omega⟩ ⟨R.val % 2048, by omega⟩ j)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5) := by
  refine (θ_run defs _ _).mono (fun r h c => ⟨fun R j => ?_, (h c).2⟩) (Value.run m ρ)
  rw [(h c).1, res_eq]
  exact result_row _ _ _ _ _ _ R j

end Cert.Reference3Ideal.Hand

end
-- ==== Proof.Ffn.lean ====
/-
  The value claim of `ffn`: from equal arguments the kernel and the reference end with equal results, each the same row
  function of its arguments, row by row.
-/
module

public import proofs.«01_k».proof.Defs
public import proofs.«01_k».proof.Proof.FfnValue
public import proofs.«01_k».proof.Proof.FfnReference
public import proofs.«01_k».proof.Proof.Gen.Kernel3.Frame

@[expose] public section

noncomputable section

namespace Cert.Ffn

open Idealize.ShloMosaic Idealize.ShloMosaic.TcCoe Idealize.ShloMosaic.Tactic Idealize.SL.Sem

/-- A row of the reference's result is the row function of the flat arguments. -/
theorem outRow_eq (x : FVec Ideal Cert.Kernel3Ideal.S32768x1024 .f32) (md : FVec Ideal Cert.Kernel3Ideal.S24x9x1024 .f32)
    (gpre gpost : FVec Ideal Cert.Kernel3Ideal.S1x1024 .f32) (w1 : FVec Ideal Cert.Kernel3Ideal.S1024x5632 .bf16)
    (w2 : FVec Ideal Cert.Kernel3Ideal.S2816x1024 .bf16) (R : Fin 32768) :
    Cert.Reference3Ideal.Hand.outRow x md gpre gpost w1 w2 ⟨R.val / 2048, by omega⟩ ⟨R.val % 2048, by omega⟩
      = Cert.Kernel3Ideal.Hand.ffnArr x md gpre gpost w1 w2 R := by
  unfold Cert.Reference3Ideal.Hand.outRow
  simp only [Cert.Reference3Ideal.Hand.flat_eq]
  rfl

/-- The kernel's result and the reference's are equal arrays. -/
theorem algebraic : Cert.algebraic_Kernel3Ideal_Reference3Ideal := by
  intro m g m' g' _ hargs
  refine ⟨fun c => fun i : Cert.Kernel3Ideal.S32768x1024.Idx => Cert.Kernel3Ideal.Hand.result m c (i 0) (i 1), ?_, ?_⟩
  · refine (θ_run Cert.Kernel3Ideal.defs _ _).mono (fun r h c => ⟨(h c).1.trans (Cert.Kernel3Ideal.Hand.final m c), (h c).2⟩)
      (Cert.Kernel3Ideal.Value.run_blocks m g)
  · refine (θ_run Cert.Reference3Ideal.defs _ _).mono (fun r h c => ⟨?_, (h c).2⟩) (Cert.Reference3Ideal.Hand.run_rows m' g')
    obtain ⟨h0, h1, h2, h3, h4, h5⟩ := hargs c
    have key (R : Fin 32768) (j : Fin 1024) : r.2.mem ((c.tc : Thread Cert.Reference3Ideal.nD Cert.Reference3Ideal.τ).loc
        Cert.Reference3Ideal.main_v75) (ix2 R j) = Cert.Kernel3Ideal.Hand.result m c R j := by
      rw [(h c).1 R j, outRow_eq]
      unfold Cert.Kernel3Ideal.Hand.result
      rw [← h0, ← h1, ← h2, ← h3, ← h4, ← h5]
    funext i
    obtain ⟨R, j, rfl⟩ : ∃ (R : Fin 32768) (j : Fin 1024), i = ix2 R j := ⟨i 0, i 1, by funext a; fin_cases a <;> rfl⟩
    exact key R j

/-- The reference runs to its end with its arguments kept; it declares no semaphore. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Hand.run_rows m g)

/-- The kernel runs to its end over the ideal values, its arguments and counters kept. -/
theorem frame_ideal : Cert.quiescent_Kernel3Ideal := fun m g _ => Cert.Kernel3Ideal.Gen.frame m g

/-- So it does over the bit-exact ones. -/
theorem frame_bits : Cert.quiescent_Kernel3 := fun m g _ => Cert.Kernel3.Gen.frame m g

end Cert.Ffn

end
-- ==== Proof.lean ====
/-
  The claims about this kernel, assembled. `hgrn`: the recurrence's program runs to its end over any float values, its
  arguments and counters kept (`Proof/Run.lean` at the ideal values, `Proof/RunBits.lean` at the bit-exact ones).
  `merge_ffn` and `ffn`: their programs run to their ends, and over the ideal values each computes what its plain reference
  computes (`Proof/Tail.lean`, `Proof/Ffn.lean`).
-/
module

public import proofs.«01_k».proof.Defs
public import proofs.«01_k».proof.Proof.Gen.Kernel
public import proofs.«01_k».proof.Proof.Gen.KernelIdeal
public import proofs.«01_k».proof.Proof.Run
public import proofs.«01_k».proof.Proof.RunBits
public import proofs.«01_k».proof.Proof.Tail
public import proofs.«01_k».proof.Proof.Ffn

@[expose] public section

noncomputable section

namespace Cert.Proof

open Idealize.ShloMosaic Idealize.ShloMosaic.TcCoe Idealize.SL.Sem

/-- The facts stated of the recurrence's two printed programs. -/
instance : Cert.Kernel.Facts := Cert.Kernel.Gen.facts
instance : Cert.KernelIdeal.Facts := Cert.KernelIdeal.Gen.facts

/-- The recurrence's ideal program keeps its arguments and its counters. -/
theorem frame_kernelideal : Cert.quiescent_KernelIdeal := fun m ρ _ => Cert.KernelIdeal.Hand.run_main m ρ

/-- So does the bit-exact one. -/
theorem frame_kernel : Cert.quiescent_Kernel := fun m ρ _ => Cert.Kernel.Hand.run_main m ρ

/-- Every claim of this problem. -/
theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    frame_kernel, frame_kernelideal,
    Cert.Tail.frame_bits, Cert.Tail.frame_ideal, Cert.Tail.frame_reference,
    Cert.Ffn.frame_bits, Cert.Ffn.frame_ideal, Cert.Ffn.frame_reference,
    trivial, trivial, Cert.Tail.algebraic, trivial, Cert.Ffn.algebraic⟩

end Cert.Proof

end
